-- ==== Defs.lean ====
def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectIdeal_exponents_bounded [hPre_exponents_bounded : Cert.Pre_exponents_bounded.Facts] (m : (ℓ : Loc Cert.ProjectIdeal.nD Cert.ProjectIdeal.τ Cert.ProjectIdeal.sig) → Buf (Elt Ideal) ℓ) : Prop :=
  ∀ c : Dev Cert.ProjectIdeal.nD,
    (Cert.Pre_exponents_bounded.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2)) (m ((c.tc : Thread Cert.ProjectIdeal.nD Cert.ProjectIdeal.τ).loc Cert.ProjectIdeal.main_arg3)) (m ((c.tc : Thread Cert.ProjectIdeal.nD Cert.ProjectIdeal.τ).loc Cert.ProjectIdeal.main_arg4))) = (fun _ => 1#1)

def Pre_RefProjectIdeal (m : (ℓ : Loc Cert.RefProjectIdeal.nD Cert.RefProjectIdeal.τ Cert.RefProjectIdeal.sig) → Buf (Elt Ideal) ℓ) : Prop :=
  True

def Pre_RefProjectIdeal_exponents_bounded [hPre_exponents_bounded : Cert.Pre_exponents_bounded.Facts] (m : (ℓ : Loc Cert.RefProjectIdeal.nD Cert.RefProjectIdeal.τ Cert.RefProjectIdeal.sig) → Buf (Elt Ideal) ℓ) : Prop :=
  ∀ c : Dev Cert.RefProjectIdeal.nD,
    (Cert.Pre_exponents_bounded.fn (F := Ideal) (m ((c.tc : Thread Cert.RefProjectIdeal.nD Cert.RefProjectIdeal.τ).loc Cert.RefProjectIdeal.main_arg0)) (m ((c.tc : Thread Cert.RefProjectIdeal.nD Cert.RefProjectIdeal.τ).loc Cert.RefProjectIdeal.main_arg1)) (m ((c.tc : Thread Cert.RefProjectIdeal.nD Cert.RefProjectIdeal.τ).loc Cert.RefProjectIdeal.main_arg2)) (m ((c.tc : Thread Cert.RefProjectIdeal.nD Cert.RefProjectIdeal.τ).loc Cert.RefProjectIdeal.main_arg3)) (m ((c.tc : Thread Cert.RefProjectIdeal.nD Cert.RefProjectIdeal.τ).loc Cert.RefProjectIdeal.main_arg4))) = (fun _ => 1#1)

def Pre_Rotate (m : (ℓ : Loc Cert.Rotate.nD Cert.Rotate.τ Cert.Rotate.sig) → Buf (Elt Bits) ℓ) : Prop :=
  True

def Pre_RotateIdeal (m : (ℓ : Loc Cert.RotateIdeal.nD Cert.RotateIdeal.τ Cert.RotateIdeal.sig) → Buf (Elt Ideal) ℓ) : Prop :=
  True

def Pre_RotateIdeal_inputs_finite [hPre_inputs_finite : Cert.Pre_inputs_finite.Facts] (m : (ℓ : Loc Cert.RotateIdeal.nD Cert.RotateIdeal.τ Cert.RotateIdeal.sig) → Buf (Elt Ideal) ℓ) : Prop :=
  ∀ c : Dev Cert.RotateIdeal.nD,
    (Cert.Pre_inputs_finite.fn (F := Ideal) (m ((c.tc : Thread Cert.RotateIdeal.nD Cert.RotateIdeal.τ).loc Cert.RotateIdeal.main_arg0)) (m ((c.tc : Thread Cert.RotateIdeal.nD Cert.RotateIdeal.τ).loc Cert.RotateIdeal.main_arg1))) = (fun _ => 1#1)

def Pre_RefRotateIdeal (m : (ℓ : Loc Cert.RefRotateIdeal.nD Cert.RefRotateIdeal.τ Cert.RefRotateIdeal.sig) → Buf (Elt Ideal) ℓ) : Prop :=
  True

def Pre_RefRotateIdeal_inputs_finite [hPre_inputs_finite : Cert.Pre_inputs_finite.Facts] (m : (ℓ : Loc Cert.RefRotateIdeal.nD Cert.RefRotateIdeal.τ Cert.RefRotateIdeal.sig) → Buf (Elt Ideal) ℓ) : Prop :=
  ∀ c : Dev Cert.RefRotateIdeal.nD,
    (Cert.Pre_inputs_finite.fn (F := Ideal) (m ((c.tc : Thread Cert.RefRotateIdeal.nD Cert.RefRotateIdeal.τ).loc Cert.RefRotateIdeal.main_arg0)) (m ((c.tc : Thread Cert.RefRotateIdeal.nD Cert.RefRotateIdeal.τ).loc Cert.RefRotateIdeal.main_arg1))) = (fun _ => 1#1)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4))
      ∧ r.2.sem = fun _ => 0)

def quiescent_ProjectIdeal_pre_exponents_bounded [hProjectIdeal : Cert.ProjectIdeal.Facts] [hPre_exponents_bounded : Cert.Pre_exponents_bounded.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal_exponents_bounded m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4))
      ∧ r.2.sem = fun _ => 0)

def quiescent_RefProjectIdeal [hRefProjectIdeal : Cert.RefProjectIdeal.Facts] : Prop :=
  ∀ (m : (ℓ : Loc Cert.RefProjectIdeal.nD Cert.RefProjectIdeal.τ Cert.RefProjectIdeal.sig) → Buf (Elt Ideal) ℓ) (g : Dev Cert.RefProjectIdeal.nD → PrngReg), Pre_RefProjectIdeal m →
    θ_run (Cert.RefProjectIdeal.defs (F := Ideal)) (onTc (τ := Cert.RefProjectIdeal.τ) (Cert.RefProjectIdeal.main (F := Ideal))) ⟨m, fun _ => 0, g⟩ (fun r => (∀ c : Dev Cert.RefProjectIdeal.nD,
      r.2.mem ((c.tc : Thread Cert.RefProjectIdeal.nD Cert.RefProjectIdeal.τ).loc Cert.RefProjectIdeal.main_arg0) = m ((c.tc : Thread Cert.RefProjectIdeal.nD Cert.RefProjectIdeal.τ).loc Cert.RefProjectIdeal.main_arg0)
      ∧ r.2.mem ((c.tc : Thread Cert.RefProjectIdeal.nD Cert.RefProjectIdeal.τ).loc Cert.RefProjectIdeal.main_arg1) = m ((c.tc : Thread Cert.RefProjectIdeal.nD Cert.RefProjectIdeal.τ).loc Cert.RefProjectIdeal.main_arg1)
      ∧ r.2.mem ((c.tc : Thread Cert.RefProjectIdeal.nD Cert.RefProjectIdeal.τ).loc Cert.RefProjectIdeal.main_arg2) = m ((c.tc : Thread Cert.RefProjectIdeal.nD Cert.RefProjectIdeal.τ).loc Cert.RefProjectIdeal.main_arg2)
      ∧ r.2.mem ((c.tc : Thread Cert.RefProjectIdeal.nD Cert.RefProjectIdeal.τ).loc Cert.RefProjectIdeal.main_arg3) = m ((c.tc : Thread Cert.RefProjectIdeal.nD Cert.RefProjectIdeal.τ).loc Cert.RefProjectIdeal.main_arg3)
      ∧ r.2.mem ((c.tc : Thread Cert.RefProjectIdeal.nD Cert.RefProjectIdeal.τ).loc Cert.RefProjectIdeal.main_arg4) = m ((c.tc : Thread Cert.RefProjectIdeal.nD Cert.RefProjectIdeal.τ).loc Cert.RefProjectIdeal.main_arg4))
      ∧ r.2.sem = fun _ => 0)

def quiescent_RefProjectIdeal_pre_exponents_bounded [hRefProjectIdeal : Cert.RefProjectIdeal.Facts] [hPre_exponents_bounded : Cert.Pre_exponents_bounded.Facts] : Prop :=
  ∀ (m : (ℓ : Loc Cert.RefProjectIdeal.nD Cert.RefProjectIdeal.τ Cert.RefProjectIdeal.sig) → Buf (Elt Ideal) ℓ) (g : Dev Cert.RefProjectIdeal.nD → PrngReg), Pre_RefProjectIdeal_exponents_bounded m →
    θ_run (Cert.RefProjectIdeal.defs (F := Ideal)) (onTc (τ := Cert.RefProjectIdeal.τ) (Cert.RefProjectIdeal.main (F := Ideal))) ⟨m, fun _ => 0, g⟩ (fun r => (∀ c : Dev Cert.RefProjectIdeal.nD,
      r.2.mem ((c.tc : Thread Cert.RefProjectIdeal.nD Cert.RefProjectIdeal.τ).loc Cert.RefProjectIdeal.main_arg0) = m ((c.tc : Thread Cert.RefProjectIdeal.nD Cert.RefProjectIdeal.τ).loc Cert.RefProjectIdeal.main_arg0)
      ∧ r.2.mem ((c.tc : Thread Cert.RefProjectIdeal.nD Cert.RefProjectIdeal.τ).loc Cert.RefProjectIdeal.main_arg1) = m ((c.tc : Thread Cert.RefProjectIdeal.nD Cert.RefProjectIdeal.τ).loc Cert.RefProjectIdeal.main_arg1)
      ∧ r.2.mem ((c.tc : Thread Cert.RefProjectIdeal.nD Cert.RefProjectIdeal.τ).loc Cert.RefProjectIdeal.main_arg2) = m ((c.tc : Thread Cert.RefProjectIdeal.nD Cert.RefProjectIdeal.τ).loc Cert.RefProjectIdeal.main_arg2)
      ∧ r.2.mem ((c.tc : Thread Cert.RefProjectIdeal.nD Cert.RefProjectIdeal.τ).loc Cert.RefProjectIdeal.main_arg3) = m ((c.tc : Thread Cert.RefProjectIdeal.nD Cert.RefProjectIdeal.τ).loc Cert.RefProjectIdeal.main_arg3)
      ∧ r.2.mem ((c.tc : Thread Cert.RefProjectIdeal.nD Cert.RefProjectIdeal.τ).loc Cert.RefProjectIdeal.main_arg4) = m ((c.tc : Thread Cert.RefProjectIdeal.nD Cert.RefProjectIdeal.τ).loc Cert.RefProjectIdeal.main_arg4))
      ∧ r.2.sem = fun _ => 0)

def quiescent_Rotate [hRotate : Cert.Rotate.Facts] : Prop :=
  ∀ (m : (ℓ : Loc Cert.Rotate.nD Cert.Rotate.τ Cert.Rotate.sig) → Buf (Elt Bits) ℓ) (g : Dev Cert.Rotate.nD → PrngReg), Pre_Rotate m →
    θ_run (Cert.Rotate.defs (F := Bits)) (onTc (τ := Cert.Rotate.τ) (Cert.Rotate.main (F := Bits))) ⟨m, fun _ => 0, g⟩ (fun r => (∀ c : Dev Cert.Rotate.nD,
      r.2.mem ((c.tc : Thread Cert.Rotate.nD Cert.Rotate.τ).loc Cert.Rotate.main_arg0) = m ((c.tc : Thread Cert.Rotate.nD Cert.Rotate.τ).loc Cert.Rotate.main_arg0)
      ∧ r.2.mem ((c.tc : Thread Cert.Rotate.nD Cert.Rotate.τ).loc Cert.Rotate.main_arg1) = m ((c.tc : Thread Cert.Rotate.nD Cert.Rotate.τ).loc Cert.Rotate.main_arg1))
      ∧ r.2.sem = fun _ => 0)

def quiescent_RotateIdeal [hRotateIdeal : Cert.RotateIdeal.Facts] : Prop :=
  ∀ (m : (ℓ : Loc Cert.RotateIdeal.nD Cert.RotateIdeal.τ Cert.RotateIdeal.sig) → Buf (Elt Ideal) ℓ) (g : Dev Cert.RotateIdeal.nD → PrngReg), Pre_RotateIdeal m →
    θ_run (Cert.RotateIdeal.defs (F := Ideal)) (onTc (τ := Cert.RotateIdeal.τ) (Cert.RotateIdeal.main (F := Ideal))) ⟨m, fun _ => 0, g⟩ (fun r => (∀ c : Dev Cert.RotateIdeal.nD,
      r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
      ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1))
      ∧ r.2.sem = fun _ => 0)

def quiescent_RotateIdeal_pre_inputs_finite [hRotateIdeal : Cert.RotateIdeal.Facts] [hPre_inputs_finite : Cert.Pre_inputs_finite.Facts] : Prop :=
  ∀ (m : (ℓ : Loc Cert.RotateIdeal.nD Cert.RotateIdeal.τ Cert.RotateIdeal.sig) → Buf (Elt Ideal) ℓ) (g : Dev Cert.RotateIdeal.nD → PrngReg), Pre_RotateIdeal_inputs_finite m →
    θ_run (Cert.RotateIdeal.defs (F := Ideal)) (onTc (τ := Cert.RotateIdeal.τ) (Cert.RotateIdeal.main (F := Ideal))) ⟨m, fun _ => 0, g⟩ (fun r => (∀ c : Dev Cert.RotateIdeal.nD,
      r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
      ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1))
      ∧ r.2.sem = fun _ => 0)

def quiescent_RefRotateIdeal [hRefRotateIdeal : Cert.RefRotateIdeal.Facts] : Prop :=
  ∀ (m : (ℓ : Loc Cert.RefRotateIdeal.nD Cert.RefRotateIdeal.τ Cert.RefRotateIdeal.sig) → Buf (Elt Ideal) ℓ) (g : Dev Cert.RefRotateIdeal.nD → PrngReg), Pre_RefRotateIdeal m →
    θ_run (Cert.RefRotateIdeal.defs (F := Ideal)) (onTc (τ := Cert.RefRotateIdeal.τ) (Cert.RefRotateIdeal.main (F := Ideal))) ⟨m, fun _ => 0, g⟩ (fun r => (∀ c : Dev Cert.RefRotateIdeal.nD,
      r.2.mem ((c.tc : Thread Cert.RefRotateIdeal.nD Cert.RefRotateIdeal.τ).loc Cert.RefRotateIdeal.main_arg0) = m ((c.tc : Thread Cert.RefRotateIdeal.nD Cert.RefRotateIdeal.τ).loc Cert.RefRotateIdeal.main_arg0)
      ∧ r.2.mem ((c.tc : Thread Cert.RefRotateIdeal.nD Cert.RefRotateIdeal.τ).loc Cert.RefRotateIdeal.main_arg1) = m ((c.tc : Thread Cert.RefRotateIdeal.nD Cert.RefRotateIdeal.τ).loc Cert.RefRotateIdeal.main_arg1))
      ∧ r.2.sem = fun _ => 0)

def quiescent_RefRotateIdeal_pre_inputs_finite [hRefRotateIdeal : Cert.RefRotateIdeal.Facts] [hPre_inputs_finite : Cert.Pre_inputs_finite.Facts] : Prop :=
  ∀ (m : (ℓ : Loc Cert.RefRotateIdeal.nD Cert.RefRotateIdeal.τ Cert.RefRotateIdeal.sig) → Buf (Elt Ideal) ℓ) (g : Dev Cert.RefRotateIdeal.nD → PrngReg), Pre_RefRotateIdeal_inputs_finite m →
    θ_run (Cert.RefRotateIdeal.defs (F := Ideal)) (onTc (τ := Cert.RefRotateIdeal.τ) (Cert.RefRotateIdeal.main (F := Ideal))) ⟨m, fun _ => 0, g⟩ (fun r => (∀ c : Dev Cert.RefRotateIdeal.nD,
      r.2.mem ((c.tc : Thread Cert.RefRotateIdeal.nD Cert.RefRotateIdeal.τ).loc Cert.RefRotateIdeal.main_arg0) = m ((c.tc : Thread Cert.RefRotateIdeal.nD Cert.RefRotateIdeal.τ).loc Cert.RefRotateIdeal.main_arg0)
      ∧ r.2.mem ((c.tc : Thread Cert.RefRotateIdeal.nD Cert.RefRotateIdeal.τ).loc Cert.RefRotateIdeal.main_arg1) = m ((c.tc : Thread Cert.RefRotateIdeal.nD Cert.RefRotateIdeal.τ).loc Cert.RefRotateIdeal.main_arg1))
      ∧ r.2.sem = fun _ => 0)

def preserves_Project_ProjectIdeal : Prop :=
  True

def algebraic_ProjectIdeal_RefProjectIdeal_pre_exponents_bounded [hProjectIdeal : Cert.ProjectIdeal.Facts] [hRefProjectIdeal : Cert.RefProjectIdeal.Facts] [hPre_exponents_bounded : Cert.Pre_exponents_bounded.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.RefProjectIdeal.nD Cert.RefProjectIdeal.τ Cert.RefProjectIdeal.sig) → Buf (Elt Ideal) ℓ) (g' : Dev Cert.RefProjectIdeal.nD → PrngReg), Pre_ProjectIdeal_exponents_bounded m →
    (∀ c : Dev Cert.ProjectIdeal.nD,
      m' ((c.tc : Thread Cert.RefProjectIdeal.nD Cert.RefProjectIdeal.τ).loc Cert.RefProjectIdeal.main_arg0) = m ((c.tc : Thread Cert.ProjectIdeal.nD Cert.ProjectIdeal.τ).loc Cert.ProjectIdeal.main_arg0)
      ∧ m' ((c.tc : Thread Cert.RefProjectIdeal.nD Cert.RefProjectIdeal.τ).loc Cert.RefProjectIdeal.main_arg1) = m ((c.tc : Thread Cert.ProjectIdeal.nD Cert.ProjectIdeal.τ).loc Cert.ProjectIdeal.main_arg1)
      ∧ m' ((c.tc : Thread Cert.RefProjectIdeal.nD Cert.RefProjectIdeal.τ).loc Cert.RefProjectIdeal.main_arg2) = m ((c.tc : Thread Cert.ProjectIdeal.nD Cert.ProjectIdeal.τ).loc Cert.ProjectIdeal.main_arg2)
      ∧ m' ((c.tc : Thread Cert.RefProjectIdeal.nD Cert.RefProjectIdeal.τ).loc Cert.RefProjectIdeal.main_arg3) = m ((c.tc : Thread Cert.ProjectIdeal.nD Cert.ProjectIdeal.τ).loc Cert.ProjectIdeal.main_arg3)
      ∧ m' ((c.tc : Thread Cert.RefProjectIdeal.nD Cert.RefProjectIdeal.τ).loc Cert.RefProjectIdeal.main_arg4) = m ((c.tc : Thread Cert.ProjectIdeal.nD Cert.ProjectIdeal.τ).loc Cert.ProjectIdeal.main_arg4)) →
    ∃ (v0 : (c : Dev Cert.ProjectIdeal.nD) → Buf (Elt Ideal) ((c.tc : Thread Cert.ProjectIdeal.nD Cert.ProjectIdeal.τ).loc Cert.ProjectIdeal.main_v1)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v1) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4))
      ∧ θ_run (Cert.RefProjectIdeal.defs (F := Ideal)) (onTc (τ := Cert.RefProjectIdeal.τ) (Cert.RefProjectIdeal.main (F := Ideal))) ⟨m', fun _ => 0, g'⟩ (fun r => ∀ c : Dev Cert.RefProjectIdeal.nD,
          r.2.mem ((c.tc : Thread Cert.RefProjectIdeal.nD Cert.RefProjectIdeal.τ).loc Cert.RefProjectIdeal.main_v1) = v0 c
          ∧ r.2.mem ((c.tc : Thread Cert.RefProjectIdeal.nD Cert.RefProjectIdeal.τ).loc Cert.RefProjectIdeal.main_arg0) = m' ((c.tc : Thread Cert.RefProjectIdeal.nD Cert.RefProjectIdeal.τ).loc Cert.RefProjectIdeal.main_arg0)
          ∧ r.2.mem ((c.tc : Thread Cert.RefProjectIdeal.nD Cert.RefProjectIdeal.τ).loc Cert.RefProjectIdeal.main_arg1) = m' ((c.tc : Thread Cert.RefProjectIdeal.nD Cert.RefProjectIdeal.τ).loc Cert.RefProjectIdeal.main_arg1)
          ∧ r.2.mem ((c.tc : Thread Cert.RefProjectIdeal.nD Cert.RefProjectIdeal.τ).loc Cert.RefProjectIdeal.main_arg2) = m' ((c.tc : Thread Cert.RefProjectIdeal.nD Cert.RefProjectIdeal.τ).loc Cert.RefProjectIdeal.main_arg2)
          ∧ r.2.mem ((c.tc : Thread Cert.RefProjectIdeal.nD Cert.RefProjectIdeal.τ).loc Cert.RefProjectIdeal.main_arg3) = m' ((c.tc : Thread Cert.RefProjectIdeal.nD Cert.RefProjectIdeal.τ).loc Cert.RefProjectIdeal.main_arg3)
          ∧ r.2.mem ((c.tc : Thread Cert.RefProjectIdeal.nD Cert.RefProjectIdeal.τ).loc Cert.RefProjectIdeal.main_arg4) = m' ((c.tc : Thread Cert.RefProjectIdeal.nD Cert.RefProjectIdeal.τ).loc Cert.RefProjectIdeal.main_arg4))

def preserves_Rotate_RotateIdeal : Prop :=
  True

def algebraic_RotateIdeal_RefRotateIdeal_pre_inputs_finite [hRotateIdeal : Cert.RotateIdeal.Facts] [hRefRotateIdeal : Cert.RefRotateIdeal.Facts] [hPre_inputs_finite : Cert.Pre_inputs_finite.Facts] : Prop :=
  ∀ (m : (ℓ : Loc Cert.RotateIdeal.nD Cert.RotateIdeal.τ Cert.RotateIdeal.sig) → Buf (Elt Ideal) ℓ) (g : Dev Cert.RotateIdeal.nD → PrngReg)
    (m' : (ℓ : Loc Cert.RefRotateIdeal.nD Cert.RefRotateIdeal.τ Cert.RefRotateIdeal.sig) → Buf (Elt Ideal) ℓ) (g' : Dev Cert.RefRotateIdeal.nD → PrngReg), Pre_RotateIdeal_inputs_finite m →
    (∀ c : Dev Cert.RotateIdeal.nD,
      m' ((c.tc : Thread Cert.RefRotateIdeal.nD Cert.RefRotateIdeal.τ).loc Cert.RefRotateIdeal.main_arg0) = m ((c.tc : Thread Cert.RotateIdeal.nD Cert.RotateIdeal.τ).loc Cert.RotateIdeal.main_arg0)
      ∧ m' ((c.tc : Thread Cert.RefRotateIdeal.nD Cert.RefRotateIdeal.τ).loc Cert.RefRotateIdeal.main_arg1) = m ((c.tc : Thread Cert.RotateIdeal.nD Cert.RotateIdeal.τ).loc Cert.RotateIdeal.main_arg1)) →
    ∃ (v0 : (c : Dev Cert.RotateIdeal.nD) → Buf (Elt Ideal) ((c.tc : Thread Cert.RotateIdeal.nD Cert.RotateIdeal.τ).loc Cert.RotateIdeal.main_v1_0)) (v1 : (c : Dev Cert.RotateIdeal.nD) → Buf (Elt Ideal) ((c.tc : Thread Cert.RotateIdeal.nD Cert.RotateIdeal.τ).loc Cert.RotateIdeal.main_v1_1)) (v2 : (c : Dev Cert.RotateIdeal.nD) → Buf (Elt Ideal) ((c.tc : Thread Cert.RotateIdeal.nD Cert.RotateIdeal.τ).loc Cert.RotateIdeal.main_v1_2)),
      θ_run (Cert.RotateIdeal.defs (F := Ideal)) (onTc (τ := Cert.RotateIdeal.τ) (Cert.RotateIdeal.main (F := Ideal))) ⟨m, fun _ => 0, g⟩ (fun r => ∀ c : Dev Cert.RotateIdeal.nD,
          r.2.mem ((c.tc : Thread Cert.RotateIdeal.nD Cert.RotateIdeal.τ).loc Cert.RotateIdeal.main_v1_0) = v0 c
          ∧ r.2.mem ((c.tc : Thread Cert.RotateIdeal.nD Cert.RotateIdeal.τ).loc Cert.RotateIdeal.main_v1_1) = v1 c
          ∧ r.2.mem ((c.tc : Thread Cert.RotateIdeal.nD Cert.RotateIdeal.τ).loc Cert.RotateIdeal.main_v1_2) = v2 c
          ∧ r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
          ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1))
      ∧ θ_run (Cert.RefRotateIdeal.defs (F := Ideal)) (onTc (τ := Cert.RefRotateIdeal.τ) (Cert.RefRotateIdeal.main (F := Ideal))) ⟨m', fun _ => 0, g'⟩ (fun r => ∀ c : Dev Cert.RefRotateIdeal.nD,
          r.2.mem ((c.tc : Thread Cert.RefRotateIdeal.nD Cert.RefRotateIdeal.τ).loc Cert.RefRotateIdeal.main_v37_0) = v0 c
          ∧ r.2.mem ((c.tc : Thread Cert.RefRotateIdeal.nD Cert.RefRotateIdeal.τ).loc Cert.RefRotateIdeal.main_v37_1) = v1 c
          ∧ r.2.mem ((c.tc : Thread Cert.RefRotateIdeal.nD Cert.RefRotateIdeal.τ).loc Cert.RefRotateIdeal.main_v37_2) = v2 c
          ∧ r.2.mem ((c.tc : Thread Cert.RefRotateIdeal.nD Cert.RefRotateIdeal.τ).loc Cert.RefRotateIdeal.main_arg0) = m' ((c.tc : Thread Cert.RefRotateIdeal.nD Cert.RefRotateIdeal.τ).loc Cert.RefRotateIdeal.main_arg0)
          ∧ r.2.mem ((c.tc : Thread Cert.RefRotateIdeal.nD Cert.RefRotateIdeal.τ).loc Cert.RefRotateIdeal.main_arg1) = m' ((c.tc : Thread Cert.RefRotateIdeal.nD Cert.RefRotateIdeal.τ).loc Cert.RefRotateIdeal.main_arg1))

def Claim : Prop :=
  ∃ (hProject : Cert.Project.Facts) (hProjectIdeal : Cert.ProjectIdeal.Facts) (hRefProjectIdeal : Cert.RefProjectIdeal.Facts) (hRotate : Cert.Rotate.Facts) (hRotateIdeal : Cert.RotateIdeal.Facts) (hRefRotateIdeal : Cert.RefRotateIdeal.Facts) (hPre_exponents_bounded : Cert.Pre_exponents_bounded.Facts) (hPre_inputs_finite : Cert.Pre_inputs_finite.Facts),
    quiescent_Project (hProject := hProject)
    ∧ quiescent_ProjectIdeal (hProjectIdeal := hProjectIdeal)
    ∧ quiescent_ProjectIdeal_pre_exponents_bounded (hProjectIdeal := hProjectIdeal) (hPre_exponents_bounded := hPre_exponents_bounded)
    ∧ quiescent_RefProjectIdeal (hRefProjectIdeal := hRefProjectIdeal)
    ∧ quiescent_RefProjectIdeal_pre_exponents_bounded (hRefProjectIdeal := hRefProjectIdeal) (hPre_exponents_bounded := hPre_exponents_bounded)
    ∧ quiescent_Rotate (hRotate := hRotate)
    ∧ quiescent_RotateIdeal (hRotateIdeal := hRotateIdeal)
    ∧ quiescent_RotateIdeal_pre_inputs_finite (hRotateIdeal := hRotateIdeal) (hPre_inputs_finite := hPre_inputs_finite)
    ∧ quiescent_RefRotateIdeal (hRefRotateIdeal := hRefRotateIdeal)
    ∧ quiescent_RefRotateIdeal_pre_inputs_finite (hRefRotateIdeal := hRefRotateIdeal) (hPre_inputs_finite := hPre_inputs_finite)
    ∧ preserves_Project_ProjectIdeal
    ∧ algebraic_ProjectIdeal_RefProjectIdeal_pre_exponents_bounded (hProjectIdeal := hProjectIdeal) (hRefProjectIdeal := hRefProjectIdeal) (hPre_exponents_bounded := hPre_exponents_bounded)
    ∧ preserves_Rotate_RotateIdeal
    ∧ algebraic_RotateIdeal_RefRotateIdeal_pre_inputs_finite (hRotateIdeal := hRotateIdeal) (hRefRotateIdeal := hRefRotateIdeal) (hPre_inputs_finite := hPre_inputs_finite)
-- ==== Pre_exponents_bounded.lean ====
abbrev S256x14336 : Shape := ⟨2, ![256, 14336]⟩
abbrev S3584x7168 : Shape := ⟨2, ![3584, 7168]⟩
abbrev S3584x112 : Shape := ⟨2, ![3584, 112]⟩
abbrev S3584 : Shape := ⟨1, ![3584]⟩
abbrev S256x1 : Shape := ⟨2, ![256, 1]⟩
abbrev S_ : Shape := ⟨0, ![]⟩

class Facts : Prop where
  bcast_S_S3584x112 : S_.BroadcastsInDim S3584x112 (![] : Fin 0 → Fin S3584x112.rank)

variable [Facts]

def fn {F : FTy → Type} [FloatOps F] (main_arg0 : FVec F S256x14336 .fp8e4m3) (main_arg1 : IVec S3584x7168 8) (main_arg2 : IVec S3584x112 8) (main_arg3 : FVec F S3584 .f32) (main_arg4 : FVec F S256x1 .f32) : IVec S3584x112 1 :=
  let main_c : IVec S_ 8 := constantI S_ 8 122#8
  let main_v0 : IVec S3584x112 8 := broadcastInDim S3584x112 ![] bcast_S_S3584x112 main_c
  let main_v1 : IVec S3584x112 1 := cmpi .ule main_arg2 main_v0
  main_v1
-- ==== Pre_inputs_finite.lean ====
abbrev S1x256x14336 : Shape := ⟨3, ![1, 256, 14336]⟩
abbrev S28x28 : Shape := ⟨2, ![28, 28]⟩
abbrev S_ : Shape := ⟨0, ![]⟩

class Facts : Prop where
  bcast_S_S1x256x14336 : S_.BroadcastsInDim S1x256x14336 (![] : Fin 0 → Fin S1x256x14336.rank)
  reducesTo_S1x256x14336_S_d0_1_2 : S1x256x14336.ReducesTo [0, 1, 2] S_
  h_S_ : 0 < S_.numel
  bcast_S_S28x28 : S_.BroadcastsInDim S28x28 (![] : Fin 0 → Fin S28x28.rank)
  reducesTo_S28x28_S_d0_1 : S28x28.ReducesTo [0, 1] S_

variable [Facts]

def fn {F : FTy → Type} [FloatOps F] (main_arg0 : FVec F S1x256x14336 .bf16) (main_arg1 : FVec F S28x28 .f32) : IVec S_ 1 :=
  let main_v0 : FVec F S1x256x14336 .bf16 := Host.absf main_arg0
  let main_cst : FVec F S_ .bf16 := constant S_ .bf16 0x7F80#16
  let main_v1 : FVec F S1x256x14336 .bf16 := broadcastInDim S1x256x14336 ![] bcast_S_S1x256x14336 main_cst
  let main_v2 : IVec S1x256x14336 1 := cmpf .olt main_v0 main_v1
  let main_c : IVec S_ 1 := constantI S_ 1 1#1
  let main_v3 : IVec S_ 1 := (fun x v => Host.reduce IntOp.andi x v reducesTo_S1x256x14336_S_d0_1_2 h_S_) main_v2 main_c
  let main_v4 : FVec F S28x28 .f32 := Host.absf main_arg1
  let main_cst_0 : FVec F S_ .f32 := constant S_ .f32 0x7F800000#32
  let main_v5 : FVec F S28x28 .f32 := broadcastInDim S28x28 ![] bcast_S_S28x28 main_cst_0
  let main_v6 : IVec S28x28 1 := cmpf .olt main_v4 main_v5
  let main_c_1 : IVec S_ 1 := constantI S_ 1 1#1
  let main_v7 : IVec S_ 1 := (fun x v => Host.reduce IntOp.andi x v reducesTo_S28x28_S_d0_1 h_S_) main_v6 main_c_1
  let main_v8 : IVec S_ 1 := andi main_v3 main_v7
  main_v8
-- ==== Project.lean ====
abbrev S256x14336 : Shape := ⟨2, ![256, 14336]⟩
abbrev S3584x7168 : Shape := ⟨2, ![3584, 7168]⟩
abbrev S3584x112 : Shape := ⟨2, ![3584, 112]⟩
abbrev S3584 : Shape := ⟨1, ![3584]⟩
abbrev S256x1 : Shape := ⟨2, ![256, 1]⟩
abbrev S1x3584 : Shape := ⟨2, ![1, 3584]⟩
abbrev S256x3584 : Shape := ⟨2, ![256, 3584]⟩
abbrev S256x7168 : Shape := ⟨2, ![256, 7168]⟩
abbrev S256x112 : Shape := ⟨2, ![256, 112]⟩
abbrev S1x256 : Shape := ⟨2, ![1, 256]⟩
abbrev S256x256 : Shape := ⟨2, ![256, 256]⟩
abbrev S64x256 : Shape := ⟨2, ![64, 256]⟩
abbrev S256x128 : Shape := ⟨2, ![256, 128]⟩

abbrev nBuf : Space → Nat
  | .hbm => 7
  | .vmem => 10
  | .smem => 0
  | _ => 0

abbrev bufTy : (tb : Table) → Fin (tcTables nBuf tb) → BufTy
  | .hbm, ⟨0, _⟩ => ⟨S256x14336, .fp8e4m3⟩
  | .hbm, ⟨1, _⟩ => ⟨S3584x7168, .i8⟩
  | .hbm, ⟨2, _⟩ => ⟨S3584x112, .i8⟩
  | .hbm, ⟨3, _⟩ => ⟨S3584, .f32⟩
  | .hbm, ⟨4, _⟩ => ⟨S256x1, .f32⟩
  | .hbm, ⟨5, _⟩ => ⟨S1x3584, .f32⟩
  | .hbm, ⟨6, _⟩ => ⟨S256x3584, .bf16⟩
  | .local _ .vmem, ⟨0, _⟩ => ⟨S256x14336, .fp8e4m3⟩
  | .local _ .vmem, ⟨1, _⟩ => ⟨S256x7168, .i8⟩
  | .local _ .vmem, ⟨2, _⟩ => ⟨S256x7168, .i8⟩
  | .local _ .vmem, ⟨3, _⟩ => ⟨S256x112, .i8⟩
  | .local _ .vmem, ⟨4, _⟩ => ⟨S256x112, .i8⟩
  | .local _ .vmem, ⟨5, _⟩ => ⟨S1x256, .f32⟩
  | .local _ .vmem, ⟨6, _⟩ => ⟨S1x256, .f32⟩
  | .local _ .vmem, ⟨7, _⟩ => ⟨S256x1, .f32⟩
  | .local _ .vmem, ⟨8, _⟩ => ⟨S256x256, .bf16⟩
  | .local _ .vmem, ⟨9, _⟩ => ⟨S256x256, .bf16⟩
  | _, _ => ⟨S256x14336, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x14336 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x7168 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x112 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefProjectIdeal.lean ====
abbrev S256x14336 : Shape := ⟨2, ![256, 14336]⟩
abbrev S3584x7168 : Shape := ⟨2, ![3584, 7168]⟩
abbrev S3584x112 : Shape := ⟨2, ![3584, 112]⟩
abbrev S3584 : Shape := ⟨1, ![3584]⟩
abbrev S256x1 : Shape := ⟨2, ![256, 1]⟩
abbrev S1x3584 : Shape := ⟨2, ![1, 3584]⟩
abbrev S256x3584 : Shape := ⟨2, ![256, 3584]⟩
abbrev S3584x56 : Shape := ⟨2, ![3584, 56]⟩
abbrev S3584x56x128 : Shape := ⟨3, ![3584, 56, 128]⟩
abbrev S3584x56x1 : Shape := ⟨3, ![3584, 56, 1]⟩
abbrev S256x7168 : Shape := ⟨2, ![256, 7168]⟩

abbrev nBuf : Space → Nat
  | .hbm => 7
  | .vmem => 6
  | .smem => 0
  | _ => 0

abbrev bufTy : (tb : Table) → Fin (tcTables nBuf tb) → BufTy
  | .hbm, ⟨0, _⟩ => ⟨S256x14336, .fp8e4m3⟩
  | .hbm, ⟨1, _⟩ => ⟨S3584x7168, .i8⟩
  | .hbm, ⟨2, _⟩ => ⟨S3584x112, .i8⟩
  | .hbm, ⟨3, _⟩ => ⟨S3584, .f32⟩
  | .hbm, ⟨4, _⟩ => ⟨S256x1, .f32⟩
  | .hbm, ⟨5, _⟩ => ⟨S1x3584, .f32⟩
  | .hbm, ⟨6, _⟩ => ⟨S256x3584, .bf16⟩
  | .local _ .vmem, ⟨0, _⟩ => ⟨S256x14336, .fp8e4m3⟩
  | .local _ .vmem, ⟨1, _⟩ => ⟨S3584x7168, .i8⟩
  | .local _ .vmem, ⟨2, _⟩ => ⟨S3584x112, .i8⟩
  | .local _ .vmem, ⟨3, _⟩ => ⟨S1x3584, .f32⟩
  | .local _ .vmem, ⟨4, _⟩ => ⟨S256x1, .f32⟩
  | .local _ .vmem, ⟨5, _⟩ => ⟨S256x3584, .bf16⟩
  | _, _ => ⟨S256x14336, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x14336 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x7168 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x112 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Rotate.lean ====
abbrev S1x256x14336 : Shape := ⟨3, ![1, 256, 14336]⟩
abbrev S28x28 : Shape := ⟨2, ![28, 28]⟩
abbrev S256x14336 : Shape := ⟨2, ![256, 14336]⟩
abbrev S256x1 : Shape := ⟨2, ![256, 1]⟩
abbrev S32x14336 : Shape := ⟨2, ![32, 14336]⟩
abbrev S32x1 : Shape := ⟨2, ![32, 1]⟩
abbrev S2x512x512 : Shape := ⟨3, ![2, 512, 512]⟩
abbrev S512x28 : Shape := ⟨2, ![512, 28]⟩
abbrev S512x512 : Shape := ⟨2, ![512, 512]⟩
abbrev S1x512x512 : Shape := ⟨3, ![1, 512, 512]⟩
abbrev S32x512 : Shape := ⟨2, ![32, 512]⟩
abbrev S1x8x512 : Shape := ⟨3, ![1, 8, 512]⟩
abbrev S8x512 : Shape := ⟨2, ![8, 512]⟩
abbrev S8x128 : Shape := ⟨2, ![8, 128]⟩
abbrev S1x8x128 : Shape := ⟨3, ![1, 8, 128]⟩
abbrev S8 : Shape := ⟨1, ![8]⟩
abbrev S8x1 : Shape := ⟨2, ![8, 1]⟩
abbrev S32x128 : Shape := ⟨2, ![32, 128]⟩

abbrev nBuf : Space → Nat
  | .hbm => 6
  | .vmem => 12
  | .smem => 0
  | _ => 0

abbrev bufTy : (tb : Table) → Fin (tcTables nBuf tb) → BufTy
  | .hbm, ⟨0, _⟩ => ⟨S1x256x14336, .bf16⟩
  | .hbm, ⟨1, _⟩ => ⟨S28x28, .f32⟩
  | .hbm, ⟨2, _⟩ => ⟨S256x14336, .bf16⟩
  | .hbm, ⟨3, _⟩ => ⟨S256x14336, .i8⟩
  | .hbm, ⟨4, _⟩ => ⟨S256x14336, .fp8e4m3⟩
  | .hbm, ⟨5, _⟩ => ⟨S256x1, .f32⟩
  | .local _ .vmem, ⟨0, _⟩ => ⟨S32x14336, .bf16⟩
  | .local _ .vmem, ⟨1, _⟩ => ⟨S32x14336, .bf16⟩
  | .local _ .vmem, ⟨2, _⟩ => ⟨S28x28, .f32⟩
  | .local _ .vmem, ⟨3, _⟩ => ⟨S32x14336, .i8⟩
  | .local _ .vmem, ⟨4, _⟩ => ⟨S32x14336, .i8⟩
  | .local _ .vmem, ⟨5, _⟩ => ⟨S32x14336, .fp8e4m3⟩
  | .local _ .vmem, ⟨6, _⟩ => ⟨S32x14336, .fp8e4m3⟩
  | .local _ .vmem, ⟨7, _⟩ => ⟨S32x1, .f32⟩
  | .local _ .vmem, ⟨8, _⟩ => ⟨S32x1, .f32⟩
  | .local _ .vmem, ⟨9, _⟩ => ⟨S2x512x512, .bf16⟩
  | .local _ .vmem, ⟨10, _⟩ => ⟨S2x512x512, .f32⟩
  | .local _ .vmem, ⟨11, _⟩ => ⟨S32x14336, .f32⟩
  | _, _ => ⟨S1x256x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x14336 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S28x28 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x14336 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x14336 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefRotateIdeal.lean ====
abbrev S1x256x14336 : Shape := ⟨3, ![1, 256, 14336]⟩
abbrev S28x28 : Shape := ⟨2, ![28, 28]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S1x256x512x28 : Shape := ⟨4, ![1, 256, 512, 28]⟩
abbrev S1x256x28x512 : Shape := ⟨4, ![1, 256, 28, 512]⟩
abbrev S1x256 : Shape := ⟨2, ![1, 256]⟩
abbrev S1x256x1 : Shape := ⟨3, ![1, 256, 1]⟩
abbrev S256x14336 : Shape := ⟨2, ![256, 14336]⟩
abbrev S256x1 : Shape := ⟨2, ![256, 1]⟩

abbrev nBuf : Space → Nat
  | .hbm => 58
  | .vmem => 5
  | .smem => 0
  | _ => 0

abbrev bufTy : (tb : Table) → Fin (tcTables nBuf tb) → BufTy
  | .hbm, ⟨0, _⟩ => ⟨S1x256x14336, .bf16⟩
  | .hbm, ⟨1, _⟩ => ⟨S28x28, .f32⟩
  | .hbm, ⟨2, _⟩ => ⟨S512, .i32⟩
  | .hbm, ⟨3, _⟩ => ⟨S512x1, .i32⟩
  | .hbm, ⟨4, _⟩ => ⟨S512, .i32⟩
  | .hbm, ⟨5, _⟩ => ⟨S1x512, .i32⟩
  | .hbm, ⟨6, _⟩ => ⟨S512x512, .i32⟩
  | .hbm, ⟨7, _⟩ => ⟨S512x512, .i32⟩
  | .hbm, ⟨8, _⟩ => ⟨S512x512, .i32⟩
  | .hbm, ⟨9, _⟩ => ⟨S512x512, .i32⟩
  | .hbm, ⟨10, _⟩ => ⟨S_, .i32⟩
  | .hbm, ⟨11, _⟩ => ⟨S512x512, .i32⟩
  | .hbm, ⟨12, _⟩ => ⟨S512x512, .i32⟩
  | .hbm, ⟨13, _⟩ => ⟨S_, .i32⟩
  | .hbm, ⟨14, _⟩ => ⟨S512x512, .i32⟩
  | .hbm, ⟨15, _⟩ => ⟨S512x512, .i32⟩
  | .hbm, ⟨16, _⟩ => ⟨S_, .i32⟩
  | .hbm, ⟨17, _⟩ => ⟨S512x512, .i32⟩
  | .hbm, ⟨18, _⟩ => ⟨S512x512, .i32⟩
  | .hbm, ⟨19, _⟩ => ⟨S512x512, .f32⟩
  | .hbm, ⟨20, _⟩ => ⟨S1x256x14336, .f32⟩
  | .hbm, ⟨21, _⟩ => ⟨S1x256x512x28, .f32⟩
  | .hbm, ⟨22, _⟩ => ⟨S1x256x28x512, .f32⟩
  | .hbm, ⟨23, _⟩ => ⟨S1x256x512x28, .f32⟩
  | .hbm, ⟨24, _⟩ => ⟨S1x256x512x28, .f32⟩
  | .hbm, ⟨25, _⟩ => ⟨S_, .f32⟩
  | .hbm, ⟨26, _⟩ => ⟨S1x256x512x28, .f32⟩
  | .hbm, ⟨27, _⟩ => ⟨S1x256x512x28, .f32⟩
  | .hbm, ⟨28, _⟩ => ⟨S1x256x14336, .f32⟩
  | .hbm, ⟨29, _⟩ => ⟨S1x256x14336, .f32⟩
  | .hbm, ⟨30, _⟩ => ⟨S_, .f32⟩
  | .hbm, ⟨31, _⟩ => ⟨S1x256, .f32⟩
  | .hbm, ⟨32, _⟩ => ⟨S_, .f32⟩
  | .hbm, ⟨33, _⟩ => ⟨S1x256, .f32⟩
  | .hbm, ⟨34, _⟩ => ⟨S1x256, .i1⟩
  | .hbm, ⟨35, _⟩ => ⟨S_, .f32⟩
  | .hbm, ⟨36, _⟩ => ⟨S1x256, .f32⟩
  | .hbm, ⟨37, _⟩ => ⟨S1x256, .f32⟩
  | .hbm, ⟨38, _⟩ => ⟨S_, .f32⟩
  | .hbm, ⟨39, _⟩ => ⟨S1x256, .f32⟩
  | .hbm, ⟨40, _⟩ => ⟨S1x256, .f32⟩
  | .hbm, ⟨41, _⟩ => ⟨S1x256x1, .f32⟩
  | .hbm, ⟨42, _⟩ => ⟨S1x256x14336, .f32⟩
  | .hbm, ⟨43, _⟩ => ⟨S1x256x14336, .f32⟩
  | .hbm, ⟨44, _⟩ => ⟨S1x256x14336, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1x256x14336, .f32⟩
  | .hbm, ⟨49, _⟩ => ⟨S1x256x14336, .f32⟩
  | .hbm, ⟨50, _⟩ => ⟨S_, .f32⟩
  | .hbm, ⟨51, _⟩ => ⟨S1x256x14336, .f32⟩
  | .hbm, ⟨52, _⟩ => ⟨S1x256x14336, .f32⟩
  | .hbm, ⟨53, _⟩ => ⟨S256x14336, .f32⟩
  | .hbm, ⟨54, _⟩ => ⟨S256x1, .f32⟩
  | .hbm, ⟨55, _⟩ => ⟨S256x14336, .i8⟩
  | .hbm, ⟨56, _⟩ => ⟨S256x14336, .fp8e4m3⟩
  | .hbm, ⟨57, _⟩ => ⟨S256x1, .f32⟩
  | .local _ .vmem, ⟨0, _⟩ => ⟨S256x14336, .f32⟩
  | .local _ .vmem, ⟨1, _⟩ => ⟨S256x1, .f32⟩
  | .local _ .vmem, ⟨2, _⟩ => ⟨S256x14336, .i8⟩
  | .local _ .vmem, ⟨3, _⟩ => ⟨S256x14336, .fp8e4m3⟩
  | .local _ .vmem, ⟨4, _⟩ => ⟨S256x1, .f32⟩
  | _, _ => ⟨S1x256x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_call0_v0 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_cst_7 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37_0 : Ref sig .tc := ⟨.hbm, 55, rfl⟩
abbrev main_v37_1 : Ref sig .tc := ⟨.hbm, 56, rfl⟩
abbrev main_v37_2 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x14336 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x14336 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x14336 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.ProjNibble.lean ====
/- The packed weight byte and the group factor of the projection kernel, read at one element.

   The kernel views four rows of packed bytes as one 32-bit word, shifts and masks the word, and views it as bytes
   again; per byte that is the low (or the high) four bits moved to the top of the byte, so as a signed byte it is
   sixteen times the signed four-bit code. The factor is assembled from exponent bits. -/
module

public import proofs.«01_k».proof.Proof.Gen.ProjectIdeal.Frame
public import Idealize.ShloMosaic.Lib.BitcastFour
public import Idealize.ShloMosaic.Lib.Pointwise

@[expose] public section

set_option maxRecDepth 16384

noncomputable section

namespace Cert.Proj

open Cert.ProjectIdeal Cert.ProjectIdeal.Gen Idealize.ShloMosaic Idealize.SL.Sem

/-- Bit `q` of byte row `n` of a word array viewed as bytes is bit `8 (n % 4) + q` of word row `n / 4`. -/
theorem bytes_getLsbD (x : S64x256.Idx → BitVec 32) (h : S64x256.Bitcasts 32 S256x256 8) (n k : Fin 256) (q : Nat)
    (hq : q < 8) (p : Fin 64) (hp : p.val = n.val / 4) :
    (bitcast S256x256 8 x h (ValueIdx.ix2 n k)).getLsbD q = (x (ValueIdx.ix2 p k)).getLsbD (8 * (n.val % 4) + q) := by
  rw [bitcast_getLsbD x h _ q hq (by decide)]
  have hr : S256x256.row (ValueIdx.ix2 n k) = n.val := rfl
  have e2 : (S256x256.row (ValueIdx.ix2 n k) * 8 + q) % 32 = 8 * (n.val % 4) + q := by rw [hr]; omega
  have e1 : (S256x256.row (ValueIdx.ix2 n k) * 8 + q) / 32 = p.val := by rw [hr, hp]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- The mask word keeps the top four bits of each byte. -/
theorem mask_getLsbD (q : Nat) (hq : q < 32) : (4042322160#32).getLsbD q = decide (4 ≤ q % 8) := by
  interval_cases q <;> rfl

/-- The masked words viewed as bytes: the byte's high four bits, its low four cleared. -/
theorem hi_byte (w : S256x256.Idx → BitVec 8) (h1 : S256x256.Bitcasts 8 S64x256 32) (h2 : S64x256.Bitcasts 32 S256x256 8)
    (n k : Fin 256) :
    bitcast S256x256 8 (andi (bitcast S64x256 32 w h1) (broadcast S64x256 4042322160#32)) h2 (ValueIdx.ix2 n k)
      = w (ValueIdx.ix2 n k) &&& 0xF0#8 := by
  apply BitVec.eq_of_getLsbD_eq
  intro q hq
  have hn := n.isLt
  rw [bytes_getLsbD _ h2 n k q hq ⟨n.val / 4, by omega⟩ rfl]
  show (bitcast S64x256 32 w h1 _ &&& 4042322160#32).getLsbD _ = _
  rw [BitVec.getLsbD_and, BitVec.getLsbD_and, mask_getLsbD _ (by omega),
    bitcast_8_32_getLsbD_ix2 w h1 _ k _ (by omega) n (by show _ = 4 * (n.val / 4) + _; omega)]
  have e : (8 * (n.val % 4) + q) % 8 = q := by omega
  rw [e]
  congr 1
  interval_cases q <;> rfl

/-- The shifted and masked words viewed as bytes: the byte's low four bits moved to the top. -/
theorem lo_byte (w : S256x256.Idx → BitVec 8) (h1 : S256x256.Bitcasts 8 S64x256 32) (h2 : S64x256.Bitcasts 32 S256x256 8)
    (n k : Fin 256) :
    bitcast S256x256 8 (andi (shli (bitcast S64x256 32 w h1) (broadcast S64x256 4#32)) (broadcast S64x256 4042322160#32)) h2
        (ValueIdx.ix2 n k)
      = w (ValueIdx.ix2 n k) <<< 4 := by
  apply BitVec.eq_of_getLsbD_eq
  intro q hq
  have hn := n.isLt
  rw [bytes_getLsbD _ h2 n k q hq ⟨n.val / 4, by omega⟩ rfl]
  show ((bitcast S64x256 32 w h1 _ <<< 4) &&& 4042322160#32).getLsbD _ = _
  rw [BitVec.getLsbD_and, mask_getLsbD _ (by omega), BitVec.getLsbD_shiftLeft, BitVec.getLsbD_shiftLeft]
  have e : (8 * (n.val % 4) + q) % 8 = q := by omega
  rw [e]
  by_cases h4 : 4 ≤ q
  · rw [bitcast_8_32_getLsbD_ix2 w h1 _ k _ (by omega) n (by show _ = 4 * (n.val / 4) + _; omega)]
    have e' : (8 * (n.val % 4) + q - 4) % 8 = q - 4 := by omega
    have d1 : decide (8 * (n.val % 4) + q < 32) = true := decide_eq_true (by omega)
    have d2 : decide (8 * (n.val % 4) + q < 4) = false := decide_eq_false (by omega)
    have d3 : decide (q < 8) = true := decide_eq_true (by omega)
    have d4 : decide (q < 4) = false := decide_eq_false (by omega)
    have d5 : decide (4 ≤ q) = true := decide_eq_true (by omega)
    rw [e', d1, d2, d3, d4, d5]
    simp
  · have d4 : decide (q < 4) = true := decide_eq_true (by omega)
    have d5 : decide (4 ≤ q) = false := decide_eq_false (by omega)
    rw [d4, d5]
    simp

/-- The signed four-bit code in the low half of a byte, as an integer. -/
def loCode (b : BitVec 8) : Int := (b <<< 4).toInt / 16

/-- The signed four-bit code in the high half of a byte, as an integer. -/
def hiCode (b : BitVec 8) : Int := (b &&& 0xF0#8).toInt / 16

theorem lo_toInt (b : BitVec 8) : (b <<< 4).toInt = 16 * loCode b := by
  revert b; unfold loCode; decide +kernel

theorem hi_toInt (b : BitVec 8) : (b &&& 0xF0#8).toInt = 16 * hiCode b := by
  revert b; unfold hiCode; decide +kernel

/-- The reference's low code: mask the low four bits, subtract sixteen from eight on. -/
theorem lo_ref (b : BitVec 8) :
    (Scalar.select (IntOp.cmpi CmpIPredicate.sge (IntOp.andi (b.setWidth 32) 15#32) 8#32)
      (IntOp.subi (IntOp.andi (b.setWidth 32) 15#32) 16#32) (IntOp.andi (b.setWidth 32) 15#32)).toInt = loCode b := by
  revert b; unfold loCode; decide +kernel

/-- The reference's high code: shift right by four, then as for the low one. -/
theorem hi_ref (b : BitVec 8) :
    (Scalar.select (IntOp.cmpi CmpIPredicate.sge (IntOp.andi (IntOp.shrsi ArithUnit.vector (b.setWidth 32) 4#32) 15#32) 8#32)
      (IntOp.subi (IntOp.andi (IntOp.shrsi ArithUnit.vector (b.setWidth 32) 4#32) 15#32) 16#32)
      (IntOp.andi (IntOp.shrsi ArithUnit.vector (b.setWidth 32) 4#32) 15#32)).toInt = hiCode b := by
  have h : ∀ b : BitVec 8, (IntOp.shrsi ArithUnit.vector (b.setWidth 32) 4#32) = (b.setWidth 32).sshiftRight 4 := fun b => rfl
  rw [h]
  revert b; unfold hiCode; decide +kernel

/-- A positive binary32 word with no fraction bits and exponent field `k` (neither 0 nor 255) has value `2 ^ (k - 127)`. -/
theorem pow_bits (W : BitVec 32) (k : Nat) (h1 : (W.extractLsb' 31 1 == 1#1) = false) (h2 : (W.extractLsb' 23 8).toNat = k)
    (h3 : (W.extractLsb' 0 23).toNat = 0) (hk : 0 < k) (hk' : k < 255) :
    Ideal.ofBits .f32 W = (((2 : ℝ) ^ ((k : Int) - 127) : ℝ) : EReal) := by
  show Ideal.ieee 8 23 W = _
  unfold Ideal.ieee
  simp only [h1, h2, h3]
  have n1 : ¬ k = 2 ^ 8 - 1 := by omega
  have n2 : ¬ k = 0 := by omega
  rw [if_neg n1, if_neg n2]
  simp only [Bool.false_eq_true, if_false, one_mul, Nat.add_zero]
  have e23 : ((2 ^ 23 : ℕ) : ℝ) = (2 : ℝ) ^ (23 : Int) := by norm_num
  rw [e23, ← zpow_add₀ (by norm_num : (2 : ℝ) ≠ 0)]
  congr 2
  norm_num

/-- The word the kernel assembles from a group exponent. -/
def factorWord (e : BitVec 8) : BitVec 32 :=
  (if (0#32).slt (123#32 - e.setWidth 32) then 123#32 - e.setWidth 32 else 0#32) <<< 23

theorem factorWord_sign : ∀ e : BitVec 8, ((factorWord e).extractLsb' 31 1 == 1#1) = false := by
  decide +kernel

theorem factorWord_exponent : ∀ e : BitVec 8, ((factorWord e).extractLsb' 23 8).toNat = 123 - e.toNat := by
  decide +kernel

theorem factorWord_fraction : ∀ e : BitVec 8, ((factorWord e).extractLsb' 0 23).toNat = 0 := by
  decide +kernel

/-- The word the kernel assembles from a group exponent has value `2 ^ (-4 - e)` for exponents up to 122. -/
theorem factor_bits (e : BitVec 8) (he : e.toNat ≤ 122) :
    Ideal.ofBits .f32 (factorWord e) = (((2 : ℝ) ^ (-4 - (e.toNat : Int)) : ℝ) : EReal) := by
  rw [pow_bits _ _ (factorWord_sign e) (factorWord_exponent e) (factorWord_fraction e) (by omega) (by omega)]
  have h : ((123 - e.toNat : ℕ) : Int) - 127 = -4 - (e.toNat : Int) := by omega
  rw [h]

end Cert.Proj
end
-- ==== Proof.ProjBlock.lean ====
/- The projection kernel's body as a loop over 28 pairs of column blocks.

   The generated body is one straight line of 56 matrix products; here it is written as a recursion over the pair
   number, whose step adds the product with the low codes' block and then the product with the high codes' block. -/
module

public import proofs.«01_k».proof.Proof.ProjNibble

@[expose] public section

set_option maxRecDepth 65536

noncomputable section

namespace Cert.Proj

open Cert.ProjectIdeal Cert.ProjectIdeal.Gen Idealize.ShloMosaic Idealize.SL.Sem

variable {F : FTy → Type} [FloatOps F]

/-- Columns `256 i …` of the packed weights' block. -/
theorem inbW (i : Nat) (hi : i < 28) : ∀ a, (![0, 256 * i] : Fin 2 → Nat) a + S256x256.size a ≤ S256x7168.size a := by
  intro a; match a with
  | ⟨0, _⟩ => exact Nat.le_refl _
  | ⟨1, _⟩ => show 256 * i + 256 ≤ 7168; omega

/-- Columns `o …` of the activations. -/
theorem inbA (o : Nat) (ho : o + 256 ≤ 14336) : ∀ a, (![0, o] : Fin 2 → Nat) a + S256x256.size a ≤ S256x14336.size a := by
  intro a; match a with
  | ⟨0, _⟩ => exact Nat.le_refl _
  | ⟨1, _⟩ => exact ho

/-- Column `g` of the factors. -/
theorem slG (g : Nat) (hg : g < 112) : S256x112.Slices ![0, g] S256x1 := by
  refine ⟨rfl, fun a => ?_⟩
  match a with
  | ⟨0, _⟩ => exact Nat.le_refl _
  | ⟨1, _⟩ => show g + 1 ≤ 112; omega

/-- The bytes `c` scaled group by group: columns below 128 by factor column `g`, the others by factor column `g + 1`. -/
def scaled (fac : FVec F S256x112 .bf16) (c : IVec S256x256 8) (g : Nat) (hg : g + 1 < 112) : FVec F S256x256 .fp8e4m3 :=
  truncf .fp8e4m3
    (concatenate S256x256 1
      [⟨S256x128, mulf (extractStridedSlice S256x128 ![0, 0] (sitofp .bf16 c) slices_S256x256_o0_0_S256x128)
          (broadcastTo S256x128 (extractStridedSlice S256x1 ![0, g] fac (slG g (by omega))) broadcasts_S256x1_S256x128)⟩,
       ⟨S256x128, mulf (extractStridedSlice S256x128 ![0, 128] (sitofp .bf16 c) slices_S256x256_o0_128_S256x128)
          (broadcastTo S256x128 (extractStridedSlice S256x1 ![0, g + 1] fac (slG (g + 1) hg)) broadcasts_S256x1_S256x128)⟩]
      concatenates_S256x128_S256x128_S256x256_d1)
    bitsLt_fp8e4m3_bf16

/-- One matrix product of the body: the activation block against the scaled bytes. -/
def prod (a : Vec F S256x256 .fp8e4m3) (w : FVec F S256x256 .fp8e4m3) : FVec F S256x256 .f32 :=
  matmul dot_S256x256_S256x256_S256x256_1_1_0_0_n_n none a w (constant S256x256 .f32 0x00000000#32)

/-- The low codes' bytes of a block of packed weights. -/
def loBytes (w : Vec F S256x256 .i8) : IVec S256x256 8 :=
  bitcast S256x256 8
    (andi (shli (bitcast S64x256 32 w bitcasts_S256x256_w8_S64x256_w32) (broadcast S64x256 4#32)) (broadcast S64x256 4042322160#32))
    bitcasts_S64x256_w32_S256x256_w8

/-- The high codes' bytes of a block of packed weights. -/
def hiBytes (w : Vec F S256x256 .i8) : IVec S256x256 8 :=
  bitcast S256x256 8
    (andi (bitcast S64x256 32 w bitcasts_S256x256_w8_S64x256_w32) (broadcast S64x256 4042322160#32))
    bitcasts_S64x256_w32_S256x256_w8

/-- One step of the loop: the low codes' product of pair `i`, then the high codes'. -/
def step (x0 : Vec F S256x14336 .fp8e4m3) (x1 : Vec F S256x7168 .i8) (fac : FVec F S256x112 .bf16) (i : Nat) (hi : i < 28)
    (acc : FVec F S256x256 .f32) : FVec F S256x256 .f32 :=
  addf
    (addf acc
      (prod (View.ld x0 (Rect.unit (s := S256x14336) ![0, 256 * i] S256x256.size (inbA (256 * i) (by omega))))
        (scaled fac (loBytes (View.ld x1 (Rect.unit (s := S256x7168) ![0, 256 * i] S256x256.size (inbW i hi)))) (2 * i) (by omega))))
    (prod (View.ld x0 (Rect.unit (s := S256x14336) ![0, 256 * i + 7168] S256x256.size (inbA (256 * i + 7168) (by omega))))
      (scaled fac (hiBytes (View.ld x1 (Rect.unit (s := S256x7168) ![0, 256 * i] S256x256.size (inbW i hi)))) (2 * i + 56) (by omega)))

/-- The accumulator after `n` steps. -/
def accN (x0 : Vec F S256x14336 .fp8e4m3) (x1 : Vec F S256x7168 .i8) (fac : FVec F S256x112 .bf16) : (n : Nat) → n ≤ 28 →
    FVec F S256x256 .f32
  | 0, _ => broadcast S256x256 (Scalar.ofBits .f32 0x00000000#32)
  | n + 1, h => step x0 x1 fac n h (accN x0 x1 fac n (Nat.le_of_succ_le h))

/-- The body's result from the accumulated products: scaled by row and by column, rounded to the result's format. -/
def finish (x3 : Vec F S1x256 .f32) (x4 : Vec F S256x1 .f32) (acc : FVec F S256x256 .f32) : FVec F S256x256 .bf16 :=
  truncf .bf16
    (mulf (mulf acc (broadcastTo S256x256 x4 broadcasts_S256x1_S256x256))
      (broadcastTo S256x256 (shapeCast S1x256 x3 shapeCasts_S1x256_S1x256) broadcasts_S1x256_S256x256))
    bitsLt_bf16_f32

/-- The generated body is the loop. -/
theorem out_eq (x0 : Vec F S256x14336 .fp8e4m3) (x1 : Vec F S256x7168 .i8) (x2 : Vec F S256x112 .i8) (x3 : Vec F S1x256 .f32)
    (x4 : Vec F S256x1 .f32) :
    out0_5 x0 x1 x2 x3 x4
      = View.canon [⟨r0_87, finish (View.ld x3 r0_86) (View.ld x4 r0_85) (accN x0 x1 (k0_pay2 (View.ld x2 r0_0)) 28 (Nat.le_refl _))⟩] := by
  rfl

end Cert.Proj
end
-- ==== Proof.ProjValue.lean ====
/- The projection kernel's body over exact numbers, element by element. -/
module

public import proofs.«01_k».proof.Proof.ProjBlock

@[expose] public section

set_option maxRecDepth 16384

noncomputable section

namespace Cert.Proj

open Cert.ProjectIdeal Cert.ProjectIdeal.Gen Idealize.ShloMosaic Idealize.SL.Sem

/-- A product of the body at an element: the sum over the 256 columns. -/
theorem prod_apply (a : Vec Ideal S256x256 .fp8e4m3) (w : FVec Ideal S256x256 .fp8e4m3) (r n : Fin 256) :
    prod a w (ix2 r n) = ∑ k : Fin 256, a (ix2 r k) * w (ix2 n k) := by
  pointwise [prod]

/-- The scaled bytes at an element. -/
theorem scaled_apply (fac : FVec Ideal S256x112 .bf16) (c : IVec S256x256 8) (g : Nat) (hg : g + 1 < 112) (n k : Fin 256)
    (hgk : g + k.val / 128 < 112) :
    scaled fac c g hg (ix2 n k) = (((c (ix2 n k)).toInt : ℝ) : EReal) * fac (ix2 n ⟨g + k.val / 128, hgk⟩) := by
  pointwise [scaled]
  have hk := k.isLt
  by_cases h : k.val < 128
  · rw [dif_pos h]
    have e : k.val / 128 = 0 := by omega
    simp only [e, Nat.add_zero]
    rfl
  · rw [dif_neg h]
    have e : k.val / 128 = 1 := by omega
    have e' : (⟨128 + (k.val - 128), by omega⟩ : Fin 256) = k := Fin.ext (by show 128 + (k.val - 128) = k.val; omega)
    simp only [e, e']
    rfl

/-- The factor of a group, for an exponent up to 122. -/
theorem fac_apply (x2 : Vec Ideal S256x112 .i8) (n : Fin 256) (g : Fin 112) (he : (x2 (ix2 n g)).toNat ≤ 122) :
    k0_pay2 x2 (ix2 n g) = (((2 : ℝ) ^ (-4 - ((x2 (ix2 n g)).toNat : Int)) : ℝ) : EReal) := by
  rw [← factor_bits _ he]
  pointwise [k0_pay2]
  rfl

/-- The body's result from the accumulated products, at an element. -/
theorem finish_apply (x3 : Vec Ideal S1x256 .f32) (x4 : Vec Ideal S256x1 .f32) (acc : FVec Ideal S256x256 .f32) (r n : Fin 256) :
    finish x3 x4 acc (ix2 r n) = (acc (ix2 r n) * x4 (ix2 r 0)) * x3 (ix2 0 n) := by
  pointwise [finish]

/-- A loaded block of the activations. -/
theorem ldA_apply (x0 : Vec Ideal S256x14336 .fp8e4m3) (o : Nat) (ho : o + 256 ≤ 14336) (r k : Fin 256) :
    View.ld x0 (Rect.unit (s := S256x14336) ![0, o] S256x256.size (inbA o ho)) (ix2 r k) = x0 (ix2 r ⟨o + k.val, by omega⟩) := by
  pointwise

/-- A loaded block of the packed weights. -/
theorem ldW_apply (x1 : Vec Ideal S256x7168 .i8) (i : Nat) (hi : i < 28) (r k : Fin 256) :
    View.ld x1 (Rect.unit (s := S256x7168) ![0, 256 * i] S256x256.size (inbW i hi)) (ix2 r k)
      = x1 (ix2 r ⟨256 * i + k.val, by omega⟩) := by
  pointwise

/-- The weight a low code and its group exponent stand for. -/
def wLo (b e : BitVec 8) : EReal := (((loCode b : ℝ) * (2 : ℝ) ^ (-(e.toNat : Int)) : ℝ) : EReal)

/-- The weight a high code and its group exponent stand for. -/
def wHi (b e : BitVec 8) : EReal := (((hiCode b : ℝ) * (2 : ℝ) ^ (-(e.toNat : Int)) : ℝ) : EReal)

/-- Sixteen times a code, scaled by `2 ^ (-4 - e)`, is the code scaled by `2 ^ (-e)`. -/
theorem code_scale (c : Int) (e : Nat) :
    ((((16 * c : Int) : ℝ)) : EReal) * (((2 : ℝ) ^ (-4 - (e : Int)) : ℝ) : EReal) = (((c : ℝ) * (2 : ℝ) ^ (-(e : Int)) : ℝ) : EReal) := by
  rw [← EReal.coe_mul]
  congr 1
  have h : (-4 - (e : Int)) = -4 + -(e : Int) := by ring
  rw [h, zpow_add₀ (by norm_num : (2 : ℝ) ≠ 0)]
  push_cast
  norm_num
  ring

theorem loBytes_apply (w : Vec Ideal S256x256 .i8) (n k : Fin 256) :
    ((loBytes w (ix2 n k)).toInt : Int) = 16 * loCode (w (ix2 n k)) := by
  rw [← lo_toInt, ix2_eq_valueIdx]
  exact congrArg BitVec.toInt (lo_byte w _ _ n k)

theorem hiBytes_apply (w : Vec Ideal S256x256 .i8) (n k : Fin 256) :
    ((hiBytes w (ix2 n k)).toInt : Int) = 16 * hiCode (w (ix2 n k)) := by
  rw [← hi_toInt, ix2_eq_valueIdx]
  exact congrArg BitVec.toInt (hi_byte w _ _ n k)

/-- The low half's product at lane `l` of the contraction. -/
def laneLo (x0 : Vec Ideal S256x14336 .fp8e4m3) (x1 : Vec Ideal S256x7168 .i8) (x2 : Vec Ideal S256x112 .i8) (r n : Fin 256)
    (l : Fin 7168) : EReal :=
  x0 (ix2 r ⟨l.val, by omega⟩) * wLo (x1 (ix2 n l)) (x2 (ix2 n ⟨l.val / 128, by omega⟩))

/-- The high half's product at lane `l` of the contraction. -/
def laneHi (x0 : Vec Ideal S256x14336 .fp8e4m3) (x1 : Vec Ideal S256x7168 .i8) (x2 : Vec Ideal S256x112 .i8) (r n : Fin 256)
    (l : Fin 7168) : EReal :=
  x0 (ix2 r ⟨7168 + l.val, by omega⟩) * wHi (x1 (ix2 n l)) (x2 (ix2 n ⟨56 + l.val / 128, by omega⟩))

/-- One step of the loop at an element. -/
theorem step_apply (x0 : Vec Ideal S256x14336 .fp8e4m3) (x1 : Vec Ideal S256x7168 .i8) (x2 : Vec Ideal S256x112 .i8)
    (he : ∀ n g, (x2 (ix2 n g)).toNat ≤ 122) (i : Nat) (hi : i < 28) (acc : FVec Ideal S256x256 .f32) (r n : Fin 256) :
    step x0 x1 (k0_pay2 x2) i hi acc (ix2 r n)
      = acc (ix2 r n) + ((∑ k : Fin 256, laneLo x0 x1 x2 r n ⟨i * 256 + k.val, by omega⟩)
        + ∑ k : Fin 256, laneHi x0 x1 x2 r n ⟨i * 256 + k.val, by omega⟩) := by
  show (acc (ix2 r n) + prod _ _ (ix2 r n)) + prod _ _ (ix2 r n) = _
  rw [prod_apply, prod_apply, add_assoc]
  congr 2
  · refine Finset.sum_congr rfl fun k _ => ?_
    rw [ldA_apply x0 (256 * i) (by omega), scaled_apply _ _ _ _ _ _ (by omega), loBytes_apply, ldW_apply x1 i hi, fac_apply _ _ _ (he _ _), code_scale]
    have e1 : (⟨256 * i + k.val, by omega⟩ : Fin 7168) = ⟨i * 256 + k.val, by omega⟩ := by rw [Fin.mk.injEq]; omega
    have e2 : (⟨256 * i + k.val, by omega⟩ : Fin 14336) = ⟨i * 256 + k.val, by omega⟩ := by rw [Fin.mk.injEq]; omega
    have e3 : (⟨2 * i + k.val / 128, by omega⟩ : Fin 112) = ⟨(i * 256 + k.val) / 128, by omega⟩ := by rw [Fin.mk.injEq]; omega
    rw [e1, e2, e3]
    rfl
  · refine Finset.sum_congr rfl fun k _ => ?_
    rw [ldA_apply x0 (256 * i + 7168) (by omega), scaled_apply _ _ _ _ _ _ (by omega), hiBytes_apply, ldW_apply x1 i hi, fac_apply _ _ _ (he _ _), code_scale]
    have e1 : (⟨256 * i + k.val, by omega⟩ : Fin 7168) = ⟨i * 256 + k.val, by omega⟩ := by rw [Fin.mk.injEq]; omega
    have e2 : (⟨256 * i + 7168 + k.val, by omega⟩ : Fin 14336) = ⟨7168 + (i * 256 + k.val), by omega⟩ := by rw [Fin.mk.injEq]; omega
    have e3 : (⟨2 * i + 56 + k.val / 128, by omega⟩ : Fin 112) = ⟨56 + (i * 256 + k.val) / 128, by omega⟩ := by rw [Fin.mk.injEq]; omega
    rw [e1, e2, e3]
    rfl

/-- The accumulator after `n` steps at an element. -/
theorem accN_apply (x0 : Vec Ideal S256x14336 .fp8e4m3) (x1 : Vec Ideal S256x7168 .i8) (x2 : Vec Ideal S256x112 .i8)
    (he : ∀ n g, (x2 (ix2 n g)).toNat ≤ 122) (r c : Fin 256) : ∀ (n : Nat) (hn : n ≤ 28),
    accN x0 x1 (k0_pay2 x2) n hn (ix2 r c)
      = ∑ i : Fin n, ((∑ k : Fin 256, laneLo x0 x1 x2 r c ⟨i.val * 256 + k.val, by omega⟩)
        + ∑ k : Fin 256, laneHi x0 x1 x2 r c ⟨i.val * 256 + k.val, by omega⟩)
  | 0, _ => by
    rw [Fin.sum_univ_zero]
    exact Ideal.ofBits_zero_f32
  | n + 1, hn => by
    rw [Fin.sum_univ_castSucc]
    show step x0 x1 (k0_pay2 x2) n _ (accN x0 x1 (k0_pay2 x2) n _) (ix2 r c) = _
    rw [step_apply x0 x1 x2 he, accN_apply x0 x1 x2 he r c n]
    rfl

/-- The body's accumulated products: both halves of the contraction, whole. -/
theorem acc_apply (x0 : Vec Ideal S256x14336 .fp8e4m3) (x1 : Vec Ideal S256x7168 .i8) (x2 : Vec Ideal S256x112 .i8)
    (he : ∀ n g, (x2 (ix2 n g)).toNat ≤ 122) (r c : Fin 256) :
    accN x0 x1 (k0_pay2 x2) 28 (Nat.le_refl _) (ix2 r c)
      = (∑ l : Fin 7168, laneLo x0 x1 x2 r c l) + ∑ l : Fin 7168, laneHi x0 x1 x2 r c l := by
  rw [accN_apply x0 x1 x2 he, Finset.sum_add_distrib, Fin.sum_univ_tiles 28 256 rfl (laneLo x0 x1 x2 r c),
    Fin.sum_univ_tiles 28 256 rfl (laneHi x0 x1 x2 r c)]

end Cert.Proj
end
-- ==== Proof.ProjRef.lean ====
/- The reference projection's body over exact numbers, element by element. -/
module

public import proofs.«01_k».proof.Proof.Gen.RefProjectIdeal.Frame
public import proofs.«01_k».proof.Proof.ProjValue

@[expose] public section

set_option maxRecDepth 16384

noncomputable section

namespace Cert.ProjRef

open Cert.RefProjectIdeal Cert.RefProjectIdeal.Gen Cert.Proj Idealize.ShloMosaic Idealize.SL.Sem

/-- The factor of the reference for a group exponent. -/
theorem exp2_neg (e : BitVec 8) :
    Ideal.exp2 ((0 : EReal) - (((e.setWidth 32).toInt : ℝ) : EReal)) = (((2 : ℝ) ^ (-(e.toNat : Int)) : ℝ) : EReal) := by
  have h : (e.setWidth 32).toInt = (e.toNat : Int) := by revert e; decide +kernel
  rw [h, zero_sub, ← EReal.coe_neg, Ideal.exp2_coe]
  congr 1
  show (2 : ℝ) ^ (-((e.toNat : Int) : ℝ)) = _
  rw [← Real.rpow_intCast]
  congr 1
  push_cast
  rfl

/-- The reference's low weights. -/
theorem lo_apply (v0 : Vec Ideal S3584x7168 .i8) (v18 : Vec Ideal S3584x112 .i8) (n : Fin 3584) (l : Fin 7168) :
    k0_pay4 v0 v18 (ix2 n l) = wLo (v0 (ix2 n l)) (v18 (ix2 n ⟨l.val / 128, by omega⟩)) := by
  unfold wLo
  rw [EReal.coe_mul, ← exp2_neg, ← lo_ref]
  pointwise [k0_pay4, k0_pay3, k0_pay2]
  rfl

theorem hi_apply (v0 : Vec Ideal S3584x7168 .i8) (v18 : Vec Ideal S3584x112 .i8) (n : Fin 3584) (l : Fin 7168) :
    k0_pay5 v0 v18 (ix2 n l) = wHi (v0 (ix2 n l)) (v18 (ix2 n ⟨56 + l.val / 128, by omega⟩)) := by
  unfold wHi
  rw [EReal.coe_mul, ← exp2_neg, ← hi_ref]
  pointwise [k0_pay5, k0_pay3, k0_pay2]
  rfl

theorem body_apply (wl wh : FVec Ideal S3584x7168 .fp8e4m3) (al ah : Vec Ideal S256x7168 .fp8e4m3) (x4 : Vec Ideal S256x1 .f32)
    (x3 : Vec Ideal S1x3584 .f32) (r : Fin 256) (n : Fin 3584) :
    k0_pay1 wl wh al ah x4 x3 (ix2 r n)
      = (((∑ l : Fin 7168, al (ix2 r l) * wl (ix2 n l)) + ∑ l : Fin 7168, ah (ix2 r l) * wh (ix2 n l)) * x4 (ix2 r 0)) * x3 (ix2 0 n) := by
  pointwise [k0_pay1]

theorem out_apply (x0 : Vec Ideal S256x14336 .fp8e4m3) (x1 : Vec Ideal S3584x7168 .i8) (x2 : Vec Ideal S3584x112 .i8)
    (x3 : Vec Ideal S1x3584 .f32) (x4 : Vec Ideal S256x1 .f32) (r : Fin 256) (n : Fin 3584) :
    Cert.RefProjectIdeal.Gen.out0_5 x0 x1 x2 x3 x4 (ix2 r n)
      = (((∑ l : Fin 7168, x0 (ix2 r ⟨l.val, by omega⟩) * wLo (x1 (ix2 n l)) (x2 (ix2 n ⟨l.val / 128, by omega⟩)))
          + ∑ l : Fin 7168, x0 (ix2 r ⟨7168 + l.val, by omega⟩) * wHi (x1 (ix2 n l)) (x2 (ix2 n ⟨56 + l.val / 128, by omega⟩)))
        * x4 (ix2 r 0)) * x3 (ix2 0 n) := by
  have hz : (![0, 0] : Fin 2 → Nat) = fun _ => 0 := by funext a; match a with | ⟨0, _⟩ => rfl | ⟨1, _⟩ => rfl
  unfold Cert.RefProjectIdeal.Gen.out0_5
  rw [View.canon_unit_zero hz, body_apply, View.ld_unit_zero hz, View.ld_unit_zero hz]
  simp only [lo_apply, hi_apply]
  pointwise

end Cert.ProjRef
end
-- ==== Proof.ProjRun.lean ====
/- The kernel's down projection: from the blocks of its 14 grid points to the whole result array. -/
module

public import proofs.«01_k».proof.Proof.Gen.ProjectIdeal.Value
public import proofs.«01_k».proof.Proof.ProjValue
public import Idealize.ShloMosaic.Lib.Pipeline.ValueKit.Point
public import Idealize.ShloMosaic.Lib.StableHlo.RunRead

@[expose] public section

set_option maxRecDepth 16384

noncomputable section

namespace Cert.Proj

open Cert.ProjectIdeal Cert.ProjectIdeal.Gen Idealize.ShloMosaic Idealize.ShloMosaic.TcCoe Idealize.SL.Sem
open Idealize.ShloMosaic.Pipeline (Dat)

/-- One element of the projection, at row `r` and output channel `n`: the codes of the row against the dequantised weights
    of the channel, low halves of the packed bytes first, then the row scale and the channel scale. -/
def projAt (a8 : FVec Ideal S256x14336 .fp8e4m3) (w : Vec Ideal S3584x7168 .i8) (g : Vec Ideal S3584x112 .i8)
    (ws : FVec Ideal S3584 .f32) (s : FVec Ideal S256x1 .f32) (r : Fin 256) (n : Fin 3584) : EReal :=
  (((∑ l : Fin 7168, a8 (ix2 r ⟨l.val, by omega⟩) * wLo (w (ix2 n l)) (g (ix2 n ⟨l.val / 128, by omega⟩)))
    + ∑ l : Fin 7168, a8 (ix2 r ⟨7168 + l.val, by omega⟩) * wHi (w (ix2 n l)) (g (ix2 n ⟨56 + l.val / 128, by omega⟩)))
    * s (ix2 r 0)) * ws (ix1 n)

/-- The whole projection. -/
def proj (a8 : FVec Ideal S256x14336 .fp8e4m3) (w : Vec Ideal S3584x7168 .i8) (g : Vec Ideal S3584x112 .i8)
    (ws : FVec Ideal S3584 .f32) (s : FVec Ideal S256x1 .f32) : FVec Ideal S256x3584 .bf16 :=
  fun i => projAt a8 w g ws s (i 0) (i 1)

/-- What the kernel's body stores at row `r`, column `n` of its block. -/
theorem body_apply (x0 : Vec Ideal S256x14336 .fp8e4m3) (x1 : Vec Ideal S256x7168 .i8) (x2 : Vec Ideal S256x112 .i8)
    (x3 : Vec Ideal S1x256 .f32) (x4 : Vec Ideal S256x1 .f32)
    (he : ∀ n g, (x2 (ix2 n g)).toNat ≤ 122) (r n : Fin 256) :
    out0_5 x0 x1 x2 x3 x4 (ix2 r n) =
      (((∑ l : Fin 7168, laneLo x0 x1 x2 r n l) + ∑ l : Fin 7168, laneHi x0 x1 x2 r n l) * x4 (ix2 r 0)) * x3 (ix2 0 n) := by
  have hz : (![0, 0] : Fin 2 → Nat) = fun _ => 0 := by funext a; fin_cases a <;> rfl
  rw [out_eq, View.canon_unit_zero hz, finish_apply, View.ld_unit_zero hz, View.ld_unit_zero hz,
    View.ld_unit_zero hz, acc_apply x0 x1 x2 he]

variable (m : (ℓ : Loc nD τ sig) → Buf (Elt Ideal) ℓ)

/-- The row of channel scales the kernel's call is given is the argument's vector of them. -/
theorem scales_apply (c : Dev nD) (n : Fin 3584) :
    (V m c main_v0 : Vec Ideal S1x3584 .f32) (ix2 0 n) = m ((c : Thread nD τ).loc main_arg3) (ix1 n) := by
  have h : V m c main_v0 = shapeCast S1x3584 (m ((c : Thread nD τ).loc main_arg3)) shapeCasts_S3584_S1x3584 := by
    show StableHlo.after hostOps0 (fun b => m (c, b)) (Proc.devRef .tc main_v0) = _
    after_results
    rfl
  rw [h]
  pointwise []

theorem index_facts (t : Fin cfg0.N) :
    (win0_0.index t 0 = 0 ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = t.val)
    ∧ (win0_4.index t 0 = 0 ∧ win0_4.index t 1 = 0) ∧ (win0_5.index t 0 = 0 ∧ win0_5.index t 1 = t.val) := by
  revert t
  decide +kernel

theorem blk0 (c : Dev nD) (t : Fin cfg0.N) (r : Fin 256) (k : Fin 14336) :
    (iblk m c 0 t : Vec Ideal S256x14336 .fp8e4m3) (ix2 r k) = m ((c : Thread nD τ).loc main_arg0) (ix2 r k) := by
  have h := (index_facts t).1
  blk_ext [iblk, V, h.1, h.2]

theorem blk1 (c : Dev nD) (t : Fin cfg0.N) (n : Fin 256) (l : Fin 7168) (q : Fin 3584) (hq : q.val = 256 * t.val + n.val) :
    (iblk m c 1 t : Vec Ideal S256x7168 .i8) (ix2 n l) = m ((c : Thread nD τ).loc main_arg1) (ix2 q l) := by
  have h := (index_facts t).2.1
  blk_ext [iblk, V, h.1, h.2]

theorem blk2 (c : Dev nD) (t : Fin cfg0.N) (n : Fin 256) (l : Fin 112) (q : Fin 3584) (hq : q.val = 256 * t.val + n.val) :
    (iblk m c 2 t : Vec Ideal S256x112 .i8) (ix2 n l) = m ((c : Thread nD τ).loc main_arg2) (ix2 q l) := by
  have h := (index_facts t).2.2.1
  blk_ext [iblk, V, h.1, h.2]

theorem blk3 (c : Dev nD) (t : Fin cfg0.N) (n : Fin 256) (q : Fin 3584) (hq : q.val = 256 * t.val + n.val) :
    (iblk m c 3 t : Vec Ideal S1x256 .f32) (ix2 0 n) = m ((c : Thread nD τ).loc main_arg3) (ix1 q) := by
  have h := (index_facts t).2.2.2.1
  rw [← scales_apply m c q]
  blk_ext [iblk, h.1, h.2]

theorem blk4 (c : Dev nD) (t : Fin cfg0.N) (r : Fin 256) :
    (iblk m c 4 t : Vec Ideal S256x1 .f32) (ix2 r 0) = m ((c : Thread nD τ).loc main_arg4) (ix2 r 0) := by
  have h := (index_facts t).2.2.2.2.1
  blk_ext [iblk, V, h.1, h.2]

/-- The projection of the argument arrays. -/
abbrev result (c : Dev nD) : Buf (Elt Ideal) ((c : Thread nD τ).loc main_v1) :=
  proj (m ((c : Thread nD τ).loc main_arg0)) (m ((c : Thread nD τ).loc main_arg1)) (m ((c : Thread nD τ).loc main_arg2))
    (m ((c : Thread nD τ).loc main_arg3)) (m ((c : Thread nD τ).loc main_arg4))

/-- What grid point `t` writes back is block `t` of the projection. -/
theorem flushed_eq (he : ∀ c : Dev nD, ∀ n g, (m ((c : Thread nD τ).loc main_arg2) (ix2 n g)).toNat ≤ 122) (c : Dev nD) (t : Fin cfg0.N) :
    (dats m 0 c).flushed 5 t = ((cfg0.win 5).blk t).view.read (Elt Ideal) (result m c) := by
  rw [Value.flushed5]
  have ht : t.val < 14 := t.isLt
  have h := (index_facts t).2.2.2.2.2
  funext j
  obtain ⟨r, n, rfl⟩ : ∃ (r n : Fin 256), j = ix2 r n := ⟨j 0, j 1, by funext a; fin_cases a <;> rfl⟩
  show out0_5 (iblk m c 0 t) (iblk m c 1 t) (iblk m c 2 t) (iblk m c 3 t) (iblk m c 4 t) (ix2 r n) = _
  have hq : 256 * t.val + n.val < 3584 := by omega
  rw [body_apply _ _ _ _ _ (fun n' g => by rw [blk2 m c t n' g ⟨256 * t.val + n'.val, by omega⟩ rfl]; exact he c _ _)]
  have e : ((cfg0.win 5).blk t).view.read (Elt Ideal) (result m c) (ix2 r n) = result m c (ix2 r ⟨256 * t.val + n.val, hq⟩) := by
    blk_ext [h.1, h.2]
  rw [e]
  show _ = projAt _ _ _ _ _ r ⟨256 * t.val + n.val, hq⟩
  unfold projAt laneLo laneHi
  rw [blk3 m c t n ⟨256 * t.val + n.val, hq⟩ rfl, blk4]
  congr 3
  · refine Finset.sum_congr rfl fun l _ => ?_
    rw [blk0, blk1 m c t n l ⟨256 * t.val + n.val, hq⟩ rfl, blk2 m c t n _ ⟨256 * t.val + n.val, hq⟩ rfl]
  · refine Finset.sum_congr rfl fun l _ => ?_
    rw [blk0, blk1 m c t n l ⟨256 * t.val + n.val, hq⟩ rfl, blk2 m c t n _ ⟨256 * t.val + n.val, hq⟩ rfl]

/-- An index of the result array is in point `t`'s block when its column is among the block's. -/
theorem mem_blk (t : Fin cfg0.N) (i : S256x3584.Idx) (hl : 256 * t.val ≤ (i 1).val) (hh : (i 1).val < 256 * t.val + 256) :
    i ∈ ((cfg0.win 5).blk t).view.set := by
  show i ∈ ((View.whole main_v1).slice (win0_5.rect t)).set
  rw [View.set_slice_whole, Rect.mem_set_unit]
  have h0 : (i 0).val < 256 := (i 0).isLt
  have h := (index_facts t).2.2.2.2.2
  intro a
  match a with
  | ⟨0, _⟩ => show win0_5.index t 0 * 256 ≤ (i 0).val ∧ (i 0).val < win0_5.index t 0 * 256 + 256; rw [h.1]; omega
  | ⟨1, _⟩ => show win0_5.index t 1 * 256 ≤ (i 1).val ∧ (i 1).val < win0_5.index t 1 * 256 + 256; rw [h.2]; omega

/-- The blocks of the grid points fill the result array. -/
theorem cover (i : S256x3584.Idx) : ∃ t : Fin cfg0.N, (cfg0.win 5).flush t = true ∧ i ∈ ((cfg0.win 5).blk t).view.set := by
  have h1 : (i 1).val < 3584 := (i 1).isLt
  have hN : cfg0.N = 14 := rfl
  exact ⟨⟨(i 1).val / 256, by omega⟩, flush0_5 _, mem_blk _ i (by dsimp only; omega) (by dsimp only; omega)⟩

theorem final (he : ∀ c : Dev nD, ∀ n g, (m ((c : Thread nD τ).loc main_arg2) (ix2 n g)).toNat ≤ 122) (c : Dev nD) :
    (dats m 0 c).arrAt 5 cfg0.N = result m c :=
  (dats m 0 c).arrAt_eq_of_cover 5 (result m c) (fun t _ => flushed_eq m he c t) cover

end Cert.Proj

end
-- ==== Proof.ProjRefRun.lean ====
/- The reference projection: from its one block to the whole result array. -/
module

public import proofs.«01_k».proof.Proof.Gen.RefProjectIdeal.Value
public import proofs.«01_k».proof.Proof.ProjRef
public import proofs.«01_k».proof.Proof.ProjRun

@[expose] public section

set_option maxRecDepth 16384

noncomputable section

namespace Cert.ProjRef

open Cert.RefProjectIdeal Cert.RefProjectIdeal.Gen Cert.Proj Idealize.ShloMosaic Idealize.ShloMosaic.TcCoe Idealize.SL.Sem
open Idealize.ShloMosaic.Pipeline (Dat)

variable (m : (ℓ : Loc nD τ sig) → Buf (Elt Ideal) ℓ)

/-- The row of channel scales the reference's call is given is the argument's vector of them. -/
theorem scales_apply (c : Dev nD) (n : Fin 3584) :
    (V m c main_v0 : Vec Ideal S1x3584 .f32) (ix2 0 n) = m ((c : Thread nD τ).loc main_arg3) (ix1 n) := by
  have h : V m c main_v0 = shapeCast S1x3584 (m ((c : Thread nD τ).loc main_arg3)) shapeCasts_S3584_S1x3584 := by
    show StableHlo.after hostOps0 (fun b => m (c, b)) (Proc.devRef .tc main_v0) = _
    after_results
    rfl
  rw [h]
  pointwise []

theorem index_facts (t : Fin cfg0.N) :
    (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0) := by
  revert t
  decide +kernel

theorem blk0 (c : Dev nD) (t : Fin cfg0.N) (r : Fin 256) (k : Fin 14336) :
    (iblk m c 0 t : Vec Ideal S256x14336 .fp8e4m3) (ix2 r k) = m ((c : Thread nD τ).loc main_arg0) (ix2 r k) := by
  have h := (index_facts t).1
  blk_ext [iblk, V, h.1, h.2]

theorem blk1 (c : Dev nD) (t : Fin cfg0.N) (n : Fin 3584) (l : Fin 7168) :
    (iblk m c 1 t : Vec Ideal S3584x7168 .i8) (ix2 n l) = m ((c : Thread nD τ).loc main_arg1) (ix2 n l) := by
  have h := (index_facts t).2.1
  blk_ext [iblk, V, h.1, h.2]

theorem blk2 (c : Dev nD) (t : Fin cfg0.N) (n : Fin 3584) (l : Fin 112) :
    (iblk m c 2 t : Vec Ideal S3584x112 .i8) (ix2 n l) = m ((c : Thread nD τ).loc main_arg2) (ix2 n l) := by
  have h := (index_facts t).2.2.1
  blk_ext [iblk, V, h.1, h.2]

theorem blk3 (c : Dev nD) (t : Fin cfg0.N) (n : Fin 3584) :
    (iblk m c 3 t : Vec Ideal S1x3584 .f32) (ix2 0 n) = m ((c : Thread nD τ).loc main_arg3) (ix1 n) := by
  have h := (index_facts t).2.2.2.1
  rw [← scales_apply m c n]
  blk_ext [iblk, h.1, h.2]

theorem blk4 (c : Dev nD) (t : Fin cfg0.N) (r : Fin 256) :
    (iblk m c 4 t : Vec Ideal S256x1 .f32) (ix2 r 0) = m ((c : Thread nD τ).loc main_arg4) (ix2 r 0) := by
  have h := (index_facts t).2.2.2.2.1
  blk_ext [iblk, V, h.1, h.2]

/-- The projection of the argument arrays. -/
abbrev result (c : Dev nD) : Buf (Elt Ideal) ((c : Thread nD τ).loc main_v1) :=
  proj (m ((c : Thread nD τ).loc main_arg0)) (m ((c : Thread nD τ).loc main_arg1)) (m ((c : Thread nD τ).loc main_arg2))
    (m ((c : Thread nD τ).loc main_arg3)) (m ((c : Thread nD τ).loc main_arg4))

/-- What the one grid point writes back is the projection. -/
theorem flushed_eq (c : Dev nD) (t : Fin cfg0.N) :
    (dats m 0 c).flushed 5 t = ((cfg0.win 5).blk t).view.read (Elt Ideal) (result m c) := by
  rw [Value.flushed5]
  have h := (index_facts t).2.2.2.2.2
  funext j
  obtain ⟨r, n, rfl⟩ : ∃ (r : Fin 256) (n : Fin 3584), j = ix2 r n := ⟨j 0, j 1, by funext a; fin_cases a <;> rfl⟩
  show Cert.RefProjectIdeal.Gen.out0_5 (iblk m c 0 t) (iblk m c 1 t) (iblk m c 2 t) (iblk m c 3 t) (iblk m c 4 t) (ix2 r n) = _
  rw [out_apply]
  have e : ((cfg0.win 5).blk t).view.read (Elt Ideal) (result m c) (ix2 r n) = result m c (ix2 r n) := by
    blk_ext [h.1, h.2]
  rw [e]
  show _ = projAt _ _ _ _ _ r n
  unfold projAt
  rw [blk3 m c t n, blk4]
  congr 3
  · refine Finset.sum_congr rfl fun l _ => ?_
    rw [blk0, blk1, blk2]
  · refine Finset.sum_congr rfl fun l _ => ?_
    rw [blk0, blk1, blk2]

/-- An index of the result array is in the one block. -/
theorem mem_blk (t : Fin cfg0.N) (i : S256x3584.Idx) : i ∈ ((cfg0.win 5).blk t).view.set := by
  show i ∈ ((View.whole main_v1).slice (win0_5.rect t)).set
  rw [View.set_slice_whole, Rect.mem_set_unit]
  have h0 : (i 0).val < 256 := (i 0).isLt
  have h1 : (i 1).val < 3584 := (i 1).isLt
  have h := (index_facts t).2.2.2.2.2
  intro a
  match a with
  | ⟨0, _⟩ => show win0_5.index t 0 * 256 ≤ (i 0).val ∧ (i 0).val < win0_5.index t 0 * 256 + 256; rw [h.1]; omega
  | ⟨1, _⟩ => show win0_5.index t 1 * 3584 ≤ (i 1).val ∧ (i 1).val < win0_5.index t 1 * 3584 + 3584; rw [h.2]; omega

/-- The block fills the result array. -/
theorem cover (i : S256x3584.Idx) : ∃ t : Fin cfg0.N, (cfg0.win 5).flush t = true ∧ i ∈ ((cfg0.win 5).blk t).view.set :=
  have hN : cfg0.N = 1 := rfl
  ⟨⟨0, by omega⟩, flush0_5 _, mem_blk _ i⟩

theorem final (c : Dev nD) : (dats m 0 c).arrAt 5 cfg0.N = result m c :=
  (dats m 0 c).arrAt_eq_of_cover 5 (result m c) (fun t _ => flushed_eq m c t) cover

end Cert.ProjRef

end
-- ==== Proof.ProjClaims.lean ====
/- The claims about the down projection: the frames, and the kernel's result against the reference's. -/
module

public import proofs.«01_k».proof.Defs
public import proofs.«01_k».proof.Proof.Gen.Project.Frame
public import proofs.«01_k».proof.Proof.Gen.Pre_exponents_bounded
public import proofs.«01_k».proof.Proof.ProjRefRun

@[expose] public section

noncomputable section

namespace Cert.Proof

open Idealize.ShloMosaic Idealize.ShloMosaic.TcCoe Idealize.SL.Sem

/-- Where the precondition holds every group exponent is at most 122. -/
theorem exponents_le (m : (ℓ : Loc Cert.ProjectIdeal.nD Cert.ProjectIdeal.τ Cert.ProjectIdeal.sig) → Buf (Elt Ideal) ℓ)
    (h : Cert.Pre_ProjectIdeal_exponents_bounded (hPre_exponents_bounded := Cert.Pre_exponents_bounded.Gen.facts) m)
    (c : Dev Cert.ProjectIdeal.nD) (n : Fin 3584) (g : Fin 112) :
    (m ((c : Thread Cert.ProjectIdeal.nD Cert.ProjectIdeal.τ).loc Cert.ProjectIdeal.main_arg2) (ix2 n g)).toNat ≤ 122 := by
  have key : ∀ x : BitVec 8, IntOp.cmpi .ule x 122#8 = 1#1 → x.toNat ≤ 122 := by decide +kernel
  exact key _ (congrFun (h c) (ix2 n g))

/-- The kernel's projection ends with its result array at `Proj.proj` of its arguments, and they are unchanged. -/
theorem project_algebraic : Cert.algebraic_ProjectIdeal_RefProjectIdeal_pre_exponents_bounded
    (hProjectIdeal := Cert.ProjectIdeal.Gen.facts) (hRefProjectIdeal := Cert.RefProjectIdeal.Gen.facts)
    (hPre_exponents_bounded := Cert.Pre_exponents_bounded.Gen.facts) := by
  intro m ρ m' ρ' hpre hag
  refine ⟨fun c => Cert.Proj.result m c, ?_, ?_⟩
  · exact (θ_run _ _ _).mono (fun _ h c => ⟨(h c).1.trans (Cert.Proj.final m (exponents_le m hpre) c), (h c).2⟩)
      (Cert.ProjectIdeal.Value.run_blocks m ρ)
  · refine (θ_run _ _ _).mono (fun _ h c => ⟨(h c).1.trans ((Cert.ProjRef.final m' c).trans ?_), (h c).2⟩)
      (Cert.RefProjectIdeal.Value.run_blocks m' ρ')
    obtain ⟨h0, h1, h2, h3, h4⟩ := hag c
    show Cert.Proj.proj _ _ _ _ _ = Cert.Proj.proj _ _ _ _ _
    rw [h0, h1, h2, h3, h4]

end Cert.Proof

end
-- ==== Proof.RotFinite.lean ====
/- Where the precondition of the rotation holds, every entry of its arguments is a real number. -/
module

public import proofs.«01_k».proof.Defs
public import proofs.«01_k».proof.Proof.Gen.Pre_inputs_finite
public import Idealize.ShloMosaic.Lib.ReduceAll

@[expose] public section

noncomputable section

namespace Cert.Proof

open Idealize.ShloMosaic Idealize.ShloMosaic.TcCoe Idealize.SL.Sem

theorem inf32 : Ideal.ofBits .f32 0x7F800000#32 = ⊤ := by
  simp [Ideal.ofBits, Ideal.ieee]

theorem inf16 : Ideal.ofBits .bf16 0x7F80#16 = ⊤ := by
  simp [Ideal.ofBits, Ideal.ieee]

/-- What is less than infinity in magnitude is a real number. -/
theorem real_of_lt (x : EReal) (h : Ideal.cmp .olt (max x (-x)) ⊤ = 1#1) : x = ((x.toReal : ℝ) : EReal) := by
  have hlt : max x (-x) < ⊤ := by
    by_contra hn
    have e : Ideal.cmp .olt (max x (-x)) ⊤ = 0#1 := by
      show BitVec.ofBool (decide (max x (-x) < ⊤)) = _
      rw [decide_eq_false hn]
      rfl
    rw [e] at h
    exact absurd h (by decide)
  induction x using EReal.rec with
  | bot => simp at hlt
  | top => simp at hlt
  | coe r => rfl

theorem and_one : ∀ a b : BitVec 1, IntOp.andi a b = 1#1 → a = 1#1 ∧ b = 1#1 := by decide

/-- The precondition's function is 1 only where every entry is a real number. -/
theorem fn_real (X : FVec Ideal Cert.Pre_inputs_finite.S1x256x14336 .bf16) (W : FVec Ideal Cert.Pre_inputs_finite.S28x28 .f32)
    (h : Cert.Pre_inputs_finite.fn (F := Ideal) X W = fun _ => 1#1) :
    (∀ i, X i = (((X i : EReal).toReal : ℝ) : EReal)) ∧ ∀ i, W i = (((W i : EReal).toReal : ℝ) : EReal) := by
  have h0 := congrFun h (fun a => a.elim0)
  have h1 := and_one _ _ h0
  have : Subsingleton Cert.Pre_inputs_finite.S_.Idx := ⟨fun a b => funext fun i => i.elim0⟩
  refine ⟨fun i => real_of_lt _ ?_, fun i => real_of_lt _ ?_⟩
  · have := Host.reduce_andi_all _ _ _ _ _ h1.1 i
    rw [← inf16]
    exact this
  · have := Host.reduce_andi_all _ _ _ _ _ h1.2 i
    rw [← inf32]
    exact this

end Cert.Proof

end
-- ==== Proof.RotRefValue.lean ====
/- The reference rotation's run: what its one grid point writes to each result array. -/
module

public import proofs.«01_k».proof.Proof.Gen.RefRotateIdeal.Frame
public import Idealize.ShloMosaic.Lib.Pipeline.Value

@[expose] public section

noncomputable section

namespace Cert.RotRefValue

open Cert.RefRotateIdeal Cert.RefRotateIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 2's array: the body's result for that window (`Gen.out0_2`: its stores
    as pieces over the input windows' blocks), read through the window's block. -/
theorem flushed2 (c : Dev nD) (t : Fin cfg0.N) :
    (dats m 0 c).flushed 2 t = (cfg0.win 2).cut (grid0.coords t) (out0_2 (iblk m c 0 t) (iblk m c 1 t)) := by
  show (cfg0.win 2).cut (grid0.coords t) ((dats m 0 c).after 2 t) = _
  rw [after0_2]

/-- The index map sends distinct grid points to distinct block indices (decided over the 1 point). -/
theorem idx_inj2 : ∀ t t' : Fin cfg0.N, win0_2.index t = win0_2.index t' → t = t' :=
  (by decide +kernel : ∀ t t' : Fin grid0.N, win0_2.index t = win0_2.index t' → t = t')

/-- So two flushing points' blocks share no array index (Lib/Pipeline/Cells.lean `Window.disjoint_blk`). -/
theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

/-- BLOCK `t` OF THE FINAL ARRAY, read back through the window, is what point `t` wrote back (`flushed2`), for every
    point that writes back: no other point's block meets it. -/
theorem blocks2 (c : Dev nD) (t : Fin cfg0.N) (hf : (cfg0.win 2).flush t = true) :
    ((cfg0.win 2).blk t).view.read (Elt F) ((dats m 0 c).arrAt 2 cfg0.N) = (dats m 0 c).flushed 2 t :=
  (dats m 0 c).read_blk_arrAt_eq_flushed 2 disjoint2 cfg0.N t t.isLt hf

/-- An index that no flushing point's block covers keeps output window 2's array contents at region entry. -/
theorem entry2 (c : Dev nD) (i : S256x14336.Idx) (h : ∀ t : Fin cfg0.N, (cfg0.win 2).flush t = true → i ∉ ((cfg0.win 2).blk t).view.set) :
    (dats m 0 c).arrAt 2 cfg0.N i = V m c (Pipeline.arrRef spec0 2) i := by
  rw [(dats m 0 c).arrAt_apply_of_forall_not_mem 2 cfg0.N i (fun t _ hf => h t hf), A_eq]

/-- WHAT POINT `t` WRITES BACK to output window 3's array: the body's result for that window (`Gen.out0_3`: its stores
    as pieces over the input windows' blocks), read through the window's block. -/
theorem flushed3 (c : Dev nD) (t : Fin cfg0.N) :
    (dats m 0 c).flushed 3 t = (cfg0.win 3).cut (grid0.coords t) (out0_3 (iblk m c 0 t) (iblk m c 1 t)) := by
  show (cfg0.win 3).cut (grid0.coords t) ((dats m 0 c).after 3 t) = _
  rw [after0_3]

/-- The index map sends distinct grid points to distinct block indices (decided over the 1 point). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S256x14336.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t)) := by
  show (cfg0.win 4).cut (grid0.coords t) ((dats m 0 c).after 4 t) = _
  rw [after0_4]

/-- The index map sends distinct grid points to distinct block indices (decided over the 1 point). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S256x1.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v37_0) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v37_1) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v37_2) = (dats m 0 c).arrAt 4 cfg0.N :=
  (h c).1 4

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v37_0) = (dats m 0 c).arrAt 2 cfg0.N
      ∧ r.2.mem ((c : Thread nD τ).loc main_v37_1) = (dats m 0 c).arrAt 3 cfg0.N
      ∧ r.2.mem ((c : Thread nD τ).loc main_v37_2) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post2 m r h c,
      post3 m r h c,
      post4 m r h c,
      kept_main_arg0 m r h c,
      kept_main_arg1 m r h c⟩)
    (run_main m ρ)

end Cert.RotRefValue

end
-- ==== Proof.RotMath.lean ====
/- The rotation over the real numbers: the 512-point sign matrix is the product of a 16-point one over the chunks, a
   2-point one over the halves and a 16-point one inside a half, and the butterfly of the kernel is the first of them. -/
module

public import proofs.«01_k».proof.Proof.ProjNibble

@[expose] public section

noncomputable section

namespace Cert.Rot

/-- Parity of the low nine bits. -/
def par (v : Nat) : Bool :=
  v.testBit 0 ^^ v.testBit 1 ^^ v.testBit 2 ^^ v.testBit 3 ^^ v.testBit 4 ^^ v.testBit 5 ^^ v.testBit 6 ^^ v.testBit 7
    ^^ v.testBit 8

/-- The entry of the sign matrix at `a`, `b`. -/
def sgn (a b : Nat) : ℝ := if par (a &&& b) then -1 else 1

/-- The bits of a position in terms of chunk, half and place. -/
theorem bits_split : ∀ (g : Fin 16) (b : Fin 2) (l : Fin 16),
    ((32 * g.val + 16 * b.val + l.val).testBit 0 = l.val.testBit 0 ∧ (32 * g.val + 16 * b.val + l.val).testBit 1 = l.val.testBit 1
    ∧ (32 * g.val + 16 * b.val + l.val).testBit 2 = l.val.testBit 2 ∧ (32 * g.val + 16 * b.val + l.val).testBit 3 = l.val.testBit 3
    ∧ (32 * g.val + 16 * b.val + l.val).testBit 4 = b.val.testBit 0 ∧ (32 * g.val + 16 * b.val + l.val).testBit 5 = g.val.testBit 0
    ∧ (32 * g.val + 16 * b.val + l.val).testBit 6 = g.val.testBit 1 ∧ (32 * g.val + 16 * b.val + l.val).testBit 7 = g.val.testBit 2
    ∧ (32 * g.val + 16 * b.val + l.val).testBit 8 = g.val.testBit 3)
    := by decide +kernel

theorem bits_high : ∀ l : Fin 16, l.val.testBit 4 = false ∧ l.val.testBit 5 = false ∧ l.val.testBit 6 = false
    ∧ l.val.testBit 7 = false ∧ l.val.testBit 8 = false := by decide +kernel

theorem bits_two : ∀ l : Fin 2, l.val.testBit 1 = false ∧ l.val.testBit 2 = false ∧ l.val.testBit 3 = false
    ∧ l.val.testBit 4 = false ∧ l.val.testBit 5 = false ∧ l.val.testBit 6 = false
    ∧ l.val.testBit 7 = false ∧ l.val.testBit 8 = false := by decide +kernel

theorem sgn_xor (p q : Bool) : (if (p ^^ q) = true then (-1 : ℝ) else 1) = (if p = true then -1 else 1) * (if q = true then -1 else 1) := by
  cases p <;> cases q <;> norm_num

/-- The sign matrix splits. -/
theorem sgn_split (g h : Fin 16) (b' b : Fin 2) (q p : Fin 16) :
    sgn (32 * g.val + 16 * b'.val + q.val) (32 * h.val + 16 * b.val + p.val) = sgn g.val h.val * sgn b'.val b.val * sgn q.val p.val := by
  unfold sgn
  rw [← sgn_xor, ← sgn_xor]
  congr 2
  obtain ⟨a0, a1, a2, a3, a4, a5, a6, a7, a8⟩ := bits_split g b' q
  obtain ⟨c0, c1, c2, c3, c4, c5, c6, c7, c8⟩ := bits_split h b p
  obtain ⟨d4, d5, d6, d7, d8⟩ := bits_high g
  obtain ⟨e4, e5, e6, e7, e8⟩ := bits_high q
  obtain ⟨f1, f2, f3, f4, f5, f6, f7, f8⟩ := bits_two b'
  unfold par
  simp only [Nat.testBit_and, a0, a1, a2, a3, a4, a5, a6, a7, a8, c0, c1, c2, c3, c4, c5, c6, c7, c8, d4, d5, d6, d7, d8,
    e4, e5, e6, e7, e8, f1, f2, f3, f4, f5, f6, f7, f8, Bool.false_and, Bool.xor_false]
  generalize (g.val.testBit 0 && h.val.testBit 0) = x0
  generalize (g.val.testBit 1 && h.val.testBit 1) = x1
  generalize (g.val.testBit 2 && h.val.testBit 2) = x2
  generalize (g.val.testBit 3 && h.val.testBit 3) = x3
  generalize (b'.val.testBit 0 && b.val.testBit 0) = x4
  generalize (q.val.testBit 0 && p.val.testBit 0) = x5
  generalize (q.val.testBit 1 && p.val.testBit 1) = x6
  generalize (q.val.testBit 2 && p.val.testBit 2) = x7
  generalize (q.val.testBit 3 && p.val.testBit 3) = x8
  revert x0 x1 x2 x3 x4 x5 x6 x7 x8
  decide +kernel

/-- One stage of the butterfly over sixteen values, at distance `s`. -/
def stage {α : Type} (add sub : α → α → α) (s : Nat) (v : Nat → α) (i : Nat) : α :=
  if i / s % 2 = 0 then add (v i) (v (i + s)) else sub (v (i - s)) (v i)

/-- The butterfly over sixteen values. -/
def bfly {α : Type} (add sub : α → α → α) (v : Nat → α) (i : Nat) : α :=
  stage add sub 8 (stage add sub 4 (stage add sub 2 (stage add sub 1 v))) i

/-- `stage` with its test as a Boolean. -/
def stageB {α : Type} (add sub : α → α → α) (s : Nat) (v : Nat → α) (i : Nat) : α :=
  bif Nat.beq (i / s % 2) 0 then add (v i) (v (i + s)) else sub (v (i - s)) (v i)

/-- `bfly` with its tests as Booleans. -/
def bflyB {α : Type} (add sub : α → α → α) (v : Nat → α) (i : Nat) : α :=
  stageB add sub 8 (stageB add sub 4 (stageB add sub 2 (stageB add sub 1 v))) i

theorem stageB_eq {α : Type} (add sub : α → α → α) (s : Nat) (v : Nat → α) : stageB add sub s v = stage add sub s v := by
  funext i
  unfold stageB stage
  by_cases h : i / s % 2 = 0
  · rw [if_pos h, h]; rfl
  · have hb : Nat.beq (i / s % 2) 0 = false := by
      cases hc : Nat.beq (i / s % 2) 0
      · rfl
      · exact absurd (Nat.eq_of_beq_eq_true hc) h
    rw [if_neg h, hb]; rfl

theorem bflyB_eq {α : Type} (add sub : α → α → α) (v : Nat → α) : bflyB add sub v = bfly add sub v := by
  funext i
  unfold bflyB bfly
  simp only [stageB_eq]

/-- A map that carries sums to sums and differences to differences carries the butterfly to the butterfly. -/
theorem stage_map {α β : Type} (add sub : α → α → α) (add' sub' : β → β → β) (f : α → β) (s : Nat) (v : Nat → α)
    (ha : ∀ x y, f (add x y) = add' (f x) (f y)) (hs : ∀ x y, f (sub x y) = sub' (f x) (f y)) (i : Nat) :
    f (stage add sub s v i) = stage add' sub' s (fun n => f (v n)) i := by
  unfold stage
  by_cases h : i / s % 2 = 0
  · rw [if_pos h, if_pos h, ha]
  · rw [if_neg h, if_neg h, hs]

theorem bfly_map {α β : Type} (add sub : α → α → α) (add' sub' : β → β → β) (f : α → β) (v : Nat → α)
    (ha : ∀ x y, f (add x y) = add' (f x) (f y)) (hs : ∀ x y, f (sub x y) = sub' (f x) (f y)) (i : Nat) :
    f (bfly add sub v i) = bfly add' sub' (fun n => f (v n)) i := by
  unfold bfly
  rw [stage_map add sub add' sub' f _ _ ha hs]
  congr 1; funext n
  rw [stage_map add sub add' sub' f _ _ ha hs]
  congr 1; funext n
  rw [stage_map add sub add' sub' f _ _ ha hs]
  congr 1; funext n
  rw [stage_map add sub add' sub' f _ _ ha hs]

theorem par16 : ∀ i h : Fin 16, par (i.val &&& h.val) = (i.val.testBit 0 && h.val.testBit 0 ^^ i.val.testBit 1 && h.val.testBit 1
    ^^ i.val.testBit 2 && h.val.testBit 2 ^^ i.val.testBit 3 && h.val.testBit 3) := by decide +kernel

/-- The sign of one term, by the bits of both places. -/
theorem sgn16 (i h : Fin 16) : sgn i.val h.val = if (i.val.testBit 0 && h.val.testBit 0 ^^ i.val.testBit 1 && h.val.testBit 1
    ^^ i.val.testBit 2 && h.val.testBit 2 ^^ i.val.testBit 3 && h.val.testBit 3) = true then -1 else 1 := by
  unfold sgn; rw [par16]

/-- The butterfly is the product with the 16-point sign matrix. -/
theorem bfly_real (v : Nat → ℝ) (i : Fin 16) :
    bfly (· + ·) (· - ·) v i.val = ∑ h : Fin 16, sgn i.val h.val * v h.val := by
  simp only [sgn16]
  fin_cases i <;>
    (simp only [Fin.sum_univ_succ, bfly, stage]
     simp [Nat.testBit]
     try ring)

end Cert.Rot

end
-- ==== Proof.RotRef.lean ====
/- The reference rotation: what its host lines compute, element by element. -/
module
public import proofs.«01_k».proof.Proof.Gen.RefRotateIdeal.Frame
public import proofs.«01_k».proof.Proof.ProjValue
public import proofs.«01_k».proof.Proof.RotMath
@[expose] public section
set_option maxRecDepth 16384
noncomputable section
namespace Cert.RotRef
open Cert.RefRotateIdeal Cert.RefRotateIdeal.Gen Idealize.ShloMosaic Idealize.ShloMosaic.TcCoe Idealize.SL.Sem

section
variable {F : FTy → Type} [FloatOps F]

/-- The sign matrix. -/
def signs : FVec F S512x512 .f32 :=
  sitofp .f32 (subi (broadcastInDim S512x512 ![] bcast_S_S512x512 (constantI S_ 32 1#32))
    (muli (broadcastInDim S512x512 ![] bcast_S_S512x512 (constantI S_ 32 2#32))
      (andi (ctpop (andi (broadcastInDim S512x512 ![0, 1] bcast_S512x1_S512x512_0_1 (broadcastInDim S512x1 ![0] bcast_S512_S512x1_0 (iotaInDim S512 32 0)))
          (broadcastInDim S512x512 ![0, 1] bcast_S1x512_S512x512_0_1 (broadcastInDim S1x512 ![1] bcast_S512_S1x512_1 (iotaInDim S512 32 0)))))
        (broadcastInDim S512x512 ![] bcast_S_S512x512 (constantI S_ 32 1#32)))))

/-- The rotated array, scaled to unit norm. -/
def rot (x : FVec F S1x256x14336 .bf16) (had : FVec F S28x28 .f32) : FVec F S1x256x512x28 .f32 :=
  mulf (Host.dotGeneral dot_S1x256x512x28_S28x28_S1x256x512x28_3_1_012_0_n_n (some .fp32)
      (transpose S1x256x512x28 [0, 1, 3, 2] (Host.dotGeneral dot_S1x256x512x28_S512x512_S1x256x28x512_2_1_013_0_n_n (some .fp32)
        (shapeCast S1x256x512x28 (extf .f32 x bitsLt_bf16_f32) shapeCasts_S1x256x14336_S1x256x512x28) signs)
        transposes_S1x256x28x512_S1x256x512x28_0_1_3_2) had)
    (broadcastInDim S1x256x512x28 ![] bcast_S_S1x256x512x28 (constant S_ .f32 0x3C08D677#32))

/-- … as rows of 14336. -/
def rotRow (x : FVec F S1x256x14336 .bf16) (had : FVec F S28x28 .f32) : FVec F S1x256x14336 .f32 :=
  shapeCast S1x256x14336 (rot x had) shapeCasts_S1x256x512x28_S1x256x14336

/-- The largest magnitude of each row. -/
def amax (v : FVec F S1x256x14336 .f32) : FVec F S1x256 .f32 :=
  Host.reduce FloatOps.maximumf (Host.absf v) (constant S_ .f32 0xFF800000#32) reducesTo_S1x256x14336_S1x256_d2 h_S_

/-- The scale of each row, from the largest magnitudes. -/
def scale (a : FVec F S1x256 .f32) : FVec F S1x256 .f32 :=
  select (cmpf .oeq a (broadcastInDim S1x256 ![] bcast_S_S1x256 (constant S_ .f32 0x00000000#32)))
    (broadcastInDim S1x256 ![] bcast_S_S1x256 (constant S_ .f32 0x3F800000#32))
    (Host.divf a (broadcastInDim S1x256 ![] bcast_S_S1x256 (constant S_ .f32 0x40E00000#32)))

/-- The codes before their conversion. -/
def clipped (v : FVec F S1x256x14336 .f32) (s : FVec F S1x256 .f32) : FVec F S1x256x14336 .f32 :=
  minimumf (broadcastInDim S1x256x14336 ![] bcast_S_S1x256x14336 (constant S_ .f32 0x40E00000#32))
    (maximumf (broadcastInDim S1x256x14336 ![] bcast_S_S1x256x14336 (constant S_ .f32 0xC0E00000#32))
      (Host.roundeven (Host.divf v (broadcastInDim S1x256x14336 ![0, 1, 2] bcast_S1x256x1_S1x256x14336_0_1_2
        (broadcastInDim S1x256x1 ![0, 1] bcast_S1x256_S1x256x1_0_1 s)))))

variable (m : (ℓ : Loc nD τ sig) → Buf (Elt F) ℓ)

theorem scales_eq (c : Dev nD) : V m c main_v36
    = shapeCast S256x1 (scale (amax (rotRow (m ((c : Thread nD τ).loc main_arg0)) (m ((c : Thread nD τ).loc main_arg1))))) shapeCasts_S1x256_S256x1 := by
  show StableHlo.after (List.flatten [hostOps0, hostOps0_1, hostOps0_2, hostOps0_3, hostOps0_4, hostOps0_5, hostOps0_6]) (fun b => m (c, b)) (Proc.devRef .tc main_v36) = _
  simp only [List.flatten_cons, List.flatten_nil, List.append_nil, List.cons_append, List.nil_append]
  after_results
  sl_kernel_rfl

theorem codes_eq (c : Dev nD) : V m c main_v35
    = shapeCast S256x14336 (clipped (rotRow (m ((c : Thread nD τ).loc main_arg0)) (m ((c : Thread nD τ).loc main_arg1))) (scale (amax (rotRow (m ((c : Thread nD τ).loc main_arg0)) (m ((c : Thread nD τ).loc main_arg1)))))) shapeCasts_S1x256x14336_S256x14336 := by
  show StableHlo.after (List.flatten [hostOps0, hostOps0_1, hostOps0_2, hostOps0_3, hostOps0_4, hostOps0_5, hostOps0_6]) (fun b => m (c, b)) (Proc.devRef .tc main_v35) = _
  simp only [List.flatten_cons, List.flatten_nil, List.append_nil, List.cons_append, List.nil_append]
  after_results
  sl_kernel_rfl
end

theorem signs_apply (q p : Fin 512) : signs (F := Ideal) (ix2 q p) = FloatOps.sitofp (F := Ideal) .f32 (IntOp.subi 1#32 (IntOp.muli 2#32
    (IntOp.andi (IntOp.ctpop (IntOp.andi (BitVec.ofNat 32 q.val) (BitVec.ofNat 32 p.val))) 1#32))) := by
  pointwise [signs]

theorem rot_apply (x : FVec Ideal S1x256x14336 .bf16) (had : FVec Ideal S28x28 .f32) (r : Fin 256) (q : Fin 512) (j : Fin 28) :
    rot x had (ix4 0 r q j) = (∑ k : Fin 28, (∑ p : Fin 512, x (ix3 0 r ⟨p.val * 28 + k.val, by omega⟩) * signs (F := Ideal) (ix2 q p)) * had (ix2 j k))
      * Ideal.ofBits .f32 0x3C08D677#32 := by
  pointwise [rot]

theorem rotRow_apply (x : FVec Ideal S1x256x14336 .bf16) (had : FVec Ideal S28x28 .f32) (r : Fin 256) (d : Fin 14336) :
    rotRow x had (ix3 0 r d) = rot x had (ix4 0 r ⟨d.val / 28, by omega⟩ ⟨d.val % 28, by omega⟩) := by
  pointwise [rotRow]

theorem amax_apply (v : FVec Ideal S1x256x14336 .f32) (r : Fin 256) :
    amax v (ix2 0 r) = Finset.fold max (Ideal.ofBits .f32 0xFF800000#32) (fun x : Fin 14336 => FloatOps.absf (F := Ideal) (φ := .f32) (v (ix3 0 r x))) Finset.univ := by
  pointwise [amax]

theorem scale_apply (a : FVec Ideal S1x256 .f32) (r : Fin 256) :
    scale a (ix2 0 r) = if a (ix2 0 r) = 0 then 1 else Ideal.div (a (ix2 0 r)) (Ideal.ofBits .f32 0x40E00000#32) := by
  pointwise [scale]

theorem clipped_apply (v : FVec Ideal S1x256x14336 .f32) (s : FVec Ideal S1x256 .f32) (r : Fin 256) (d : Fin 14336) :
    clipped v s (ix3 0 r d) = min (Ideal.ofBits .f32 0x40E00000#32) (max (Ideal.ofBits .f32 0xC0E00000#32)
      (Ideal.liftRound Ideal.roundHalfEven (Ideal.div (v (ix3 0 r d)) (s (ix2 0 r))))) := by
  pointwise [clipped]
end Cert.RotRef
end
-- ==== Proof.RotWords.lean ====
/- The rotation kernel's body as plain recursions: what its stores to the two scratch arrays and to its three results are,
   for any reading of the floats. -/
module

public import proofs.«01_k».proof.Proof.Gen.RotateIdeal.Frame
public import proofs.«01_k».proof.Proof.RotMath

@[expose] public section

set_option maxRecDepth 16384

noncomputable section

namespace Cert.Rot

open Cert.RotateIdeal Cert.RotateIdeal.Gen Idealize.ShloMosaic Idealize.SL.Sem

variable {F : FTy → Type} [FloatOps F]

/-- The first row of the `n`-th row block that the kernel combines. -/
def rowOf (n : Nat) : Nat := 32 * (n % 16) + 8 * (n / 16 % 4)

theorem inb8 (b n : Nat) : ∀ a : Fin 3, (![b % 2, rowOf n, 0] : Fin 3 → Nat) a + S1x8x512.size a ≤ S2x512x512.size a := by
  have h : rowOf n + 8 ≤ 512 := by unfold rowOf; omega
  have h2 : b % 2 + 1 ≤ 2 := by omega
  intro a
  fin_cases a
  · exact h2
  · exact h
  · exact Nat.le_refl 512

/-- Row block `n` of half `b`. -/
def rect8 (b n : Nat) : Rect S2x512x512 := Rect.unit (s := S2x512x512) ![b % 2, rowOf n, 0] S1x8x512.size (inb8 b n)

section lists
variable {sg : RefSig} {κ : Kind} {sp : Space} (v : View sg κ sp S2x512x512 .f32)

/-- A row block of the products, as an 8 by 512 array. -/
def rows8 (L : List (View.Piece (Elt F) S2x512x512 .f32)) (b n : Nat) : FVec F S8x512 .f32 :=
  shapeCast S8x512 (View.readCov v L (rect8 b n).toLoadRect : Vec F S1x8x512 .f32) shapeCasts_S1x8x512_S8x512

/-- The sum of the two halves of a row block. -/
def sumPay (L : List (View.Piece (Elt F) S2x512x512 .f32)) (n : Nat) : FVec F S1x8x512 .f32 :=
  shapeCast S1x8x512 (addf (rows8 v L 0 n) (rows8 v L 1 n)) shapeCasts_S8x512_S1x8x512

/-- The difference of the two halves of a row block, turned by 64 columns. -/
def difPay (L : List (View.Piece (Elt F) S2x512x512 .f32)) (n : Nat) : FVec F S1x8x512 .f32 :=
  shapeCast S1x8x512 (dynamicRotate 1 64#32 none (subf (rows8 v L 0 n) (rows8 v L 1 n)) rotates_S8x512_d1) shapeCasts_S8x512_S1x8x512

/-- One row block combined. -/
def step (L : List (View.Piece (Elt F) S2x512x512 .f32)) (n : Nat) : List (View.Piece (Elt F) S2x512x512 .f32) :=
  ⟨rect8 1 n, difPay v L n⟩ :: ⟨rect8 0 n, sumPay v L n⟩ :: L

/-- The first `k` row blocks combined. -/
def tl (L0 : List (View.Piece (Elt F) S2x512x512 .f32)) (k : Nat) : List (View.Piece (Elt F) S2x512x512 .f32) :=
  @Nat.rec (fun _ => List (View.Piece (Elt F) S2x512x512 .f32)) L0 (fun n L => step v L n) k

theorem inbV (b g c h : Nat) : ∀ a : Fin 3, (![b % 2, 32 * (h % 16) + 8 * (g % 4), 128 * (c % 4)] : Fin 3 → Nat) a + S1x8x128.size a
    ≤ S2x512x512.size a := by
  have h1 : 32 * (h % 16) + 8 * (g % 4) + 8 ≤ 512 := by omega
  have h2 : b % 2 + 1 ≤ 2 := by omega
  have h3 : 128 * (c % 4) + 128 ≤ 512 := by omega
  intro a
  fin_cases a
  · exact h2
  · exact h1
  · exact h3

/-- A block of 8 rows and 128 columns of one half of the combined products. -/
def blk (L : List (View.Piece (Elt F) S2x512x512 .f32)) (b g c h : Nat) : FVec F S8x128 .f32 :=
  shapeCast S8x128 (View.readCov v L (Rect.unit (s := S2x512x512) ![b % 2, 32 * (h % 16) + 8 * (g % 4), 128 * (c % 4)] S1x8x128.size
    (inbV b g c h)).toLoadRect : Vec F S1x8x128 .f32) shapeCasts_S1x8x128_S8x128

/-- What enters the butterfly at chunk `h`. -/
def val (L : List (View.Piece (Elt F) S2x512x512 .f32)) (g c h : Nat) : FVec F S8x128 .f32 :=
  bif Nat.blt c 3 then blk v L 0 g c h
  else bif Nat.beq c 3 then addf (blk v L 0 g c h) (blk v L 1 g (c - 3) h)
  else blk v L 1 g (c - 3) h

/-- The butterfly's value at chunk `h`. -/
def slab (L : List (View.Piece (Elt F) S2x512x512 .f32)) (g c h : Nat) : FVec F S8x128 .f32 :=
  bflyB addf subf (val v L g c) h

theorem inbR (g c h : Nat) : ∀ a : Fin 2, (![8 * (g % 4), 896 * (h % 16) + 128 * (c % 7)] : Fin 2 → Nat) a + S8x128.size a
    ≤ S32x14336.size a := by
  have h1 : 8 * (g % 4) + 8 ≤ 32 := by omega
  have h2 : 896 * (h % 16) + 128 * (c % 7) + 128 ≤ 14336 := by omega
  intro a
  fin_cases a
  · exact h1
  · exact h2

/-- Where the butterfly's value goes. -/
def rectR (g c h : Nat) : Rect S32x14336 := Rect.unit (s := S32x14336) ![8 * (g % 4), 896 * (h % 16) + 128 * (c % 7)] S8x128.size (inbR g c h)

/-- The first `k` stores of rotated values; `G g` are the stores of products that row group `g` reads. -/
def rl (G : Nat → List (View.Piece (Elt F) S2x512x512 .f32)) (k : Nat) : List (View.Piece (Elt F) S32x14336 .f32) :=
  @Nat.rec (fun _ => List (View.Piece (Elt F) S32x14336 .f32)) []
    (fun n L => ⟨rectR (n / 112) (n / 16 % 7) (n % 16), shapeCast S8x128 (slab v (G (n / 112)) (n / 112) (n / 16 % 7) (n % 16)) shapeCasts_S8x128_S8x128⟩ :: L) k

/-- The running maximum of the magnitudes in row group `g`. -/
def mx (L : List (View.Piece (Elt F) S2x512x512 .f32)) (g k : Nat) : FVec F S8x128 .f32 :=
  @Nat.rec (fun _ => FVec F S8x128 .f32) (broadcast S8x128 (Scalar.ofBits .f32 0x00000000#32 : F .f32))
    (fun n m => maximumf m (absf (slab v L g (n / 16 % 7) (n % 16)))) k

/-- The largest scaled magnitude of each row of group `g`. -/
def amax8 (L : List (View.Piece (Elt F) S2x512x512 .f32)) (g : Nat) : FVec F S8x1 .f32 :=
  mulf (shapeCast S8x1 (multiReduction .maximumf [1] S8 (mx v L g 112) 0xFF800000#32 reduces_S8x128_S8 (.inl rfl) rfl) shapeCasts_S8_S8x1)
    (broadcast S8x1 (Scalar.ofBits .f32 0x3C08D677#32 : F .f32))

/-- The scales of row group `g`. -/
def scale8 (L : List (View.Piece (Elt F) S2x512x512 .f32)) (g : Nat) : FVec F S8x1 .f32 :=
  select (cmpf .oeq (amax8 v L g) (broadcast S8x1 (Scalar.ofBits .f32 0x00000000#32 : F .f32)))
    (broadcast S8x1 (Scalar.ofBits .f32 0x3F800000#32 : F .f32))
    (divf (amax8 v L g) (broadcast S8x1 (Scalar.ofBits .f32 0x40E00000#32 : F .f32)))

theorem inbS (g : Nat) : ∀ a : Fin 2, (![8 * (g % 4), 0] : Fin 2 → Nat) a + S8x1.size a ≤ S32x1.size a := by
  have h1 : 8 * (g % 4) + 8 ≤ 32 := by omega
  intro a
  fin_cases a
  · exact h1
  · exact Nat.le_refl 1

/-- Where the scales of row group `g` go. -/
def rectS (g : Nat) : Rect S32x1 := Rect.unit (s := S32x1) ![8 * (g % 4), 0] S8x1.size (inbS g)

/-- The stores of the scales. -/
def sl (G : Nat → List (View.Piece (Elt F) S2x512x512 .f32)) : List (View.Piece (Elt F) S32x1 .f32) :=
  [⟨rectS 3, scale8 v (G 3) 3⟩, ⟨rectS 2, scale8 v (G 2) 2⟩, ⟨rectS 1, scale8 v (G 1) 1⟩, ⟨rectS 0, scale8 v (G 0) 0⟩]
end lists

section codes
variable {sg : RefSig} {κ : Kind} {sp : Space} (v5 : View sg κ sp S32x1 .f32) (v8 : View sg κ sp S32x14336 .f32)

/-- One over the scale. -/
def inv (LS : List (View.Piece (Elt F) S32x1 .f32)) : FVec F S32x1 .f32 :=
  divf (broadcast S32x1 (Scalar.ofBits .f32 0x3F800000#32 : F .f32))
    (shapeCast S32x1 (View.readCov v5 LS (Rect.unit (s := S32x1) ![0, 0] S32x1.size (by decide)).toLoadRect : Vec F S32x1 .f32) shapeCasts_S32x1_S32x1)

theorem inbC (k : Nat) : ∀ a : Fin 2, (![0, 128 * (k % 112)] : Fin 2 → Nat) a + S32x128.size a ≤ S32x14336.size a := by
  have h1 : 128 * (k % 112) + 128 ≤ 14336 := by omega
  intro a
  fin_cases a
  · exact Nat.le_refl 32
  · exact h1

/-- Column block `k`. -/
def rectC (k : Nat) : Rect S32x14336 := Rect.unit (s := S32x14336) ![0, 128 * (k % 112)] S32x128.size (inbC k)

/-- The rounded, clipped values of column block `k`. -/
def q (LS : List (View.Piece (Elt F) S32x1 .f32)) (LR : List (View.Piece (Elt F) S32x14336 .f32)) (k : Nat) : FVec F S32x128 .f32 :=
  minimumf (broadcast S32x128 (Scalar.ofBits .f32 0x40E00000#32 : F .f32))
    (maximumf (broadcast S32x128 (Scalar.ofBits .f32 0xC0E00000#32 : F .f32))
      (roundeven (mulf (mulf (View.readCov v8 LR (rectC k).toLoadRect : Vec F S32x128 .f32) (broadcast S32x128 (Scalar.ofBits .f32 0x3C08D677#32 : F .f32)))
        (broadcastTo S32x128 (inv v5 LS) broadcasts_S32x1_S32x128))))

/-- The stores of the integer codes. -/
def cl (LS : List (View.Piece (Elt F) S32x1 .f32)) (LR : List (View.Piece (Elt F) S32x14336 .f32)) (k : Nat) : List (View.Piece (Elt F) S32x14336 .i8) :=
  @Nat.rec (fun _ => List (View.Piece (Elt F) S32x14336 .i8)) [] (fun n L => ⟨rectC n, fptosi 8 (q v5 v8 LS LR n)⟩ :: L) k

/-- The stores of the eight-bit float activations. -/
def al (LS : List (View.Piece (Elt F) S32x1 .f32)) (LR : List (View.Piece (Elt F) S32x14336 .f32)) (k : Nat) : List (View.Piece (Elt F) S32x14336 .fp8e4m3) :=
  @Nat.rec (fun _ => List (View.Piece (Elt F) S32x14336 .fp8e4m3)) []
    (fun n L => ⟨rectC n, truncf .fp8e4m3 (truncf .bf16 (q v5 v8 LS LR n) bitsLt_bf16_f32) bitsLt_fp8e4m3_bf16⟩ :: L) k
end codes

section first

theorem inbX (b h : Nat) : ∀ a : Fin 2, (![0, 896 * (h % 16) + 384 * (b % 2)] : Fin 2 → Nat) a + S32x512.size a ≤ S32x14336.size a := by
  have h1 : 896 * (h % 16) + 384 * (b % 2) + 512 ≤ 14336 := by omega
  intro a
  fin_cases a
  · exact Nat.le_refl 32
  · exact h1

variable {sg : RefSig} {κ : Kind} {sp : Space} (v1 : View sg κ sp S32x14336 .bf16) (X : v1.ty.Contents (Elt F))

/-- Window `b` of chunk `h` of the input. -/
def win (b h : Nat) : FVec F S32x512 .bf16 :=
  shapeCast S32x512 (View.readAt (Elt F) v1 (Rect.unit (s := S32x14336) ![0, 896 * (h % 16) + 384 * (b % 2)] S32x512.size (inbX b h)).toLoadRect X
    : Vec F S32x512 .bf16) shapeCasts_S32x512_S32x512

/-- Window `b` of all chunks, one under the other. -/
def lhs (b : Nat) : FVec F S512x512 .bf16 :=
  concatenate S512x512 0 [⟨S32x512, win v1 X b 0⟩, ⟨S32x512, win v1 X b 1⟩, ⟨S32x512, win v1 X b 2⟩, ⟨S32x512, win v1 X b 3⟩, ⟨S32x512, win v1 X b 4⟩, ⟨S32x512, win v1 X b 5⟩, ⟨S32x512, win v1 X b 6⟩, ⟨S32x512, win v1 X b 7⟩, ⟨S32x512, win v1 X b 8⟩, ⟨S32x512, win v1 X b 9⟩, ⟨S32x512, win v1 X b 10⟩, ⟨S32x512, win v1 X b 11⟩, ⟨S32x512, win v1 X b 12⟩, ⟨S32x512, win v1 X b 13⟩, ⟨S32x512, win v1 X b 14⟩, ⟨S32x512, win v1 X b 15⟩] concatenates_S32x512_S32x512_S32x512_S32x512_S32x512_S32x512_S32x512_S32x512_S32x512_S32x512_S32x512_S32x512_S32x512_S32x512_S32x512_S32x512_S512x512_d0

/-- Window `b` times its mixing matrix. -/
def prod (b : Nat) (mix : Vec F S1x512x512 .bf16) : FVec F S1x512x512 .f32 :=
  shapeCast S1x512x512 (matmul dot_S512x512_S512x512_S512x512_1_0_0_1_n_n none (lhs v1 X b) (shapeCast S512x512 mix shapeCasts_S1x512x512_S512x512)
    (constant S512x512 .f32 0x00000000#32)) shapeCasts_S512x512_S1x512x512

theorem inb2 (b : Nat) : ∀ a : Fin 3, (![b % 2, 0, 0] : Fin 3 → Nat) a + S1x512x512.size a ≤ S2x512x512.size a := by
  have h2 : b % 2 + 1 ≤ 2 := by omega
  intro a
  fin_cases a
  · exact h2
  · exact Nat.le_refl 512
  · exact Nat.le_refl 512

/-- Half `b` of the mixing matrices or of the products. -/
def rect2 (b : Nat) : Rect S2x512x512 := Rect.unit (s := S2x512x512) ![b % 2, 0, 0] S1x512x512.size (inb2 b)

/-- The stores of the products. -/
def t0 (mix0 mix1 : Vec F S1x512x512 .bf16) : List (View.Piece (Elt F) S2x512x512 .f32) :=
  [⟨rect2 1, prod v1 X 1 mix1⟩, ⟨rect2 0, prod v1 X 0 mix0⟩]
end first

end Cert.Rot

end
-- ==== Proof.RotWordsInt.lean ====
/- The integer words of the rotation kernel's mixing matrices: the quotient by 28, the one-hot tests and the parity. -/
module

public import proofs.«01_k».proof.Proof.RotWords

@[expose] public section

set_option maxRecDepth 65536

noncomputable section

namespace Cert.Rot

open Idealize.ShloMosaic

/-- The quotient by 28 as a product and a shift. -/
def quoW (x : BitVec 32) : BitVec 32 := IntOp.shrsi .vector (IntOp.muli x 2341#32) 16#32

/-- The test whether the remainder of `x` by 28 is `j` and `x` is one of the 448 rows. -/
def hotW (x j : BitVec 32) : BitVec 1 :=
  IntOp.andi (IntOp.andi (IntOp.cmpi .eq (IntOp.subi x (IntOp.muli (quoW x) 28#32)) j) (IntOp.cmpi .sge x 0#32)) (IntOp.cmpi .slt x 448#32)

/-- The parity of the common bits of two quotients. -/
def parW (a b : BitVec 32) : BitVec 1 :=
  IntOp.cmpi .eq (IntOp.andi (IntOp.xori (IntOp.xori (IntOp.andi a b) (IntOp.shrsi .vector (IntOp.andi a b) 2#32))
    (IntOp.shrsi .vector (IntOp.xori (IntOp.andi a b) (IntOp.shrsi .vector (IntOp.andi a b) 2#32)) 1#32)) 1#32) 1#32

/-- The test on a row. -/
theorem hot0 : ∀ (n : Fin 512) (j : Fin 28), hotW (BitVec.ofNat 32 n.val) (BitVec.ofNat 32 j.val)
    = if n.val < 448 ∧ n.val % 28 = j.val then 1#1 else 0#1 := by decide +kernel

/-- The test on a row moved down by 64. -/
theorem hot1 : ∀ (n : Fin 512) (j : Fin 28), hotW (IntOp.subi (BitVec.ofNat 32 n.val) 64#32) (BitVec.ofNat 32 j.val)
    = if 64 ≤ n.val ∧ (n.val - 64) % 28 = j.val then 1#1 else 0#1 := by decide +kernel

/-- The quotient of a row. -/
theorem quo0 : ∀ n : Fin 512, quoW (BitVec.ofNat 32 n.val) = BitVec.ofNat 32 (n.val / 28) := by decide +kernel

/-- The quotient of a row moved down by 64. -/
theorem quo1 : ∀ n : Fin 512, 64 ≤ n.val → quoW (IntOp.subi (BitVec.ofNat 32 n.val) 64#32) = BitVec.ofNat 32 ((n.val - 64) / 28) := by decide +kernel

/-- The parity of two small numbers' common bits. -/
theorem parW_eq : ∀ a b : Fin 16, parW (BitVec.ofNat 32 a.val) (BitVec.ofNat 32 b.val) = if par (a.val &&& b.val) = true then 1#1 else 0#1 := by decide +kernel

end Cert.Rot
end
-- ==== Proof.RotMix.lean ====
/- The mixing matrices of the rotation kernel, element by element. -/
module

public import proofs.«01_k».proof.Proof.RotWordsInt

@[expose] public section

set_option maxRecDepth 16384

noncomputable section

namespace Cert.Rot

open Cert.RotateIdeal Cert.RotateIdeal.Gen Idealize.ShloMosaic Idealize.SL.Sem

/-- The mixing matrix of window 0. -/
def mix0 {F : FTy → Type} [FloatOps F] (w : Vec F S28x28 .f32) : Vec F S1x512x512 .bf16 :=
  k0_pay5 (k0_pay2 w) k0_pay3 (Scalar.ofBits .f32 0x00000000#32) k0_pay4

/-- The mixing matrix of window 1. -/
def mix1 {F : FTy → Type} [FloatOps F] (w : Vec F S28x28 .f32) : Vec F S1x512x512 .bf16 :=
  k0_pay11 (k0_pay9 (k0_pay1 w) k0_pay6 (iota .tc S512x28 32 [0] iota_S512x28_d0_w32) (iota .tc S512x28 32 [1] iota_S512x28_d1_w32) k0_pay7 k0_pay8) k0_pay10

/-- The stores of the mixing matrices. -/
def ml {F : FTy → Type} [FloatOps F] (w : Vec F S28x28 .f32) : List (View.Piece (Elt F) S2x512x512 .bf16) :=
  [⟨rect2 1, mix1 w⟩, ⟨rect2 0, mix0 w⟩]

/-- The entry of the mixing matrix of window `b` over the real numbers. -/
def mixR (w : Nat → Nat → ℝ) (b r k : Nat) : ℝ :=
  if 64 * b ≤ r ∧ r - 64 * b < 448 ∧ k < 448 then sgn ((r - 64 * b) / 28) (k / 28) * w (k % 28) ((r - 64 * b) % 28) else 0

theorem sel_ite (c : Prop) [Decidable c] (a b : EReal) : Scalar.select (if c then 1#1 else 0#1) a b = if c then a else b := by
  by_cases h : c
  · rw [if_pos h, if_pos h]; rfl
  · rw [if_neg h, if_neg h]; rfl

/-- A sum over a one-hot row. -/
theorem sum_hot (p : Prop) [Decidable p] (a : Nat) (ha : a < 28) (f : Fin 28 → EReal) (h : Fin 28 → BitVec 1)
    (hh : ∀ x : Fin 28, h x = if p ∧ a = x.val then 1#1 else 0#1) :
    ∑ x, Scalar.select (h x) (f x) 0 = if p then f ⟨a, ha⟩ else 0 := by
  simp only [hh, sel_ite]
  by_cases hp : p
  · rw [if_pos hp, Finset.sum_eq_single ⟨a, ha⟩]
    · rw [if_pos ⟨hp, rfl⟩]
    · intro x _ hx
      rw [if_neg]
      rintro ⟨_, e⟩
      exact hx (Fin.ext e.symm)
    · intro h; exact absurd (Finset.mem_univ _) h
  · rw [if_neg hp]
    refine Finset.sum_eq_zero fun x _ => ?_
    rw [if_neg (fun h => hp h.1)]

theorem mul_sel (c : BitVec 1) (a : EReal) : a * Scalar.select c 1 0 = Scalar.select c a 0 := by
  have h : c = 1#1 ∨ c = 0#1 := by revert c; decide
  rcases h with rfl | rfl
  · exact mul_one a
  · exact mul_zero a

theorem subi0 (x : BitVec 32) : IntOp.subi x 0#32 = x := by
  show x - 0#32 = x
  simp

/-- The sign the kernel gives an entry. -/
theorem sel_par (a b : Fin 16) (v : ℝ) : Scalar.select (parW (BitVec.ofNat 32 a.val) (BitVec.ofNat 32 b.val)) (0 - (v : EReal)) (v : EReal)
    = ((sgn a.val b.val * v : ℝ) : EReal) := by
  rw [parW_eq, sel_ite]
  unfold sgn
  by_cases h : par (a.val &&& b.val) = true
  · rw [if_pos h, if_pos h]
    rw [show ((-1 : ℝ) * v) = 0 - v by ring, EReal.coe_sub, EReal.coe_zero]
  · rw [if_neg h, if_neg h, one_mul]

theorem sel_zero (c : BitVec 1) : Scalar.select c (0 - (0 : EReal)) 0 = 0 := by
  have h : c = 1#1 ∨ c = 0#1 := by revert c; decide
  rcases h with rfl | rfl
  · exact sub_self_zero
  · rfl
where
  sub_self_zero : (0 : EReal) - 0 = 0 := by simp

theorem pay2_apply (w : Vec Ideal S28x28 .f32) (r : Fin 512) (j : Fin 28) :
    k0_pay2 w (ix2 r j) = if r.val < 448 then w (ix2 j ⟨r.val % 28, Nat.mod_lt _ (by decide)⟩) else 0 := by
  have e : k0_pay2 w (ix2 r j) = ∑ x : Fin 28, Scalar.select (hotW (IntOp.subi (BitVec.ofNat 32 r.val) 0#32) (BitVec.ofNat 32 x.val)) (w (ix2 j x)) 0 := by
    pointwise [k0_pay2, k0_pay1]
    rfl
  rw [e, subi0]
  exact sum_hot (r.val < 448) (r.val % 28) (Nat.mod_lt _ (by decide)) (fun x => w (ix2 j x)) _ (fun x => hot0 r x)

theorem pay3_apply (r : Fin 512) (j : Fin 28) : k0_pay3 (ix2 r j) = hotW (BitVec.ofNat 32 r.val) (BitVec.ofNat 32 j.val) := by
  pointwise [k0_pay3]
  rfl

theorem pay4_apply (r : Fin 512) (j : Fin 28) : k0_pay4 (F := Ideal) (ix2 r j) = 1 := by
  pointwise [k0_pay4]

theorem pay5_apply (a : FVec Ideal S512x28 .bf16) (p : IVec S512x28 1) (o : FVec Ideal S512x28 .f32) (z : Fin 1) (r k : Fin 512) :
    k0_pay5 a p (Scalar.ofBits .f32 0x00000000#32) o (ix3 z r k)
      = Scalar.select (parW (quoW (IntOp.subi (BitVec.ofNat 32 r.val) 0#32)) (quoW (BitVec.ofNat 32 k.val)))
        (0 - ∑ x : Fin 28, a (ix2 r x) * Scalar.select (p (ix2 k x)) (o (ix2 k x)) 0)
        (∑ x : Fin 28, a (ix2 r x) * Scalar.select (p (ix2 k x)) (o (ix2 k x)) 0) := by
  pointwise [k0_pay5]
  rfl

theorem pay9_apply (a : FVec Ideal S28x28 .bf16) (r k : Fin 512) :
    k0_pay9 a k0_pay6 (iota .tc S512x28 32 [0] iota_S512x28_d0_w32) (iota .tc S512x28 32 [1] iota_S512x28_d1_w32) k0_pay7 k0_pay8 (ix2 r k)
      = ∑ x : Fin 28, Scalar.select (hotW (BitVec.ofNat 32 k.val) (BitVec.ofNat 32 x.val))
        (∑ y : Fin 28, Scalar.select (hotW (IntOp.subi (BitVec.ofNat 32 r.val) 64#32) (BitVec.ofNat 32 y.val)) (a (ix2 x y)) 0) 0 := by
  pointwise [k0_pay9, k0_pay6, k0_pay7, k0_pay8]
  rfl

theorem pay10_apply (r k : Fin 512) : k0_pay10 (ix2 r k) = quoW (IntOp.subi (BitVec.ofNat 32 r.val) 64#32) := by
  pointwise [k0_pay10]
  rfl

theorem pay11_apply (a : FVec Ideal S512x512 .f32) (p : IVec S512x512 32) (z : Fin 1) (r k : Fin 512) :
    k0_pay11 a p (ix3 z r k) = Scalar.select (parW (p (ix2 r k)) (quoW (BitVec.ofNat 32 k.val))) (0 - a (ix2 r k)) (a (ix2 r k)) := by
  pointwise [k0_pay11]
  rfl

theorem pay1_apply (w : Vec Ideal S28x28 .f32) (i j : Fin 28) : k0_pay1 w (ix2 i j) = w (ix2 i j) := by
  pointwise [k0_pay1]

/-- The mixing matrix of window 0. -/
theorem mix0_apply (w : Vec Ideal S28x28 .f32) (wR : Nat → Nat → ℝ) (hw : ∀ i j : Fin 28, w (ix2 i j) = ((wR i.val j.val : ℝ) : EReal))
    (z : Fin 1) (r k : Fin 512) : mix0 w (ix3 z r k) = ((mixR wR 0 r.val k.val : ℝ) : EReal) := by
  unfold mix0
  rw [pay5_apply]
  simp only [pay4_apply, mul_sel, pay3_apply]
  rw [sum_hot (k.val < 448) (k.val % 28) (Nat.mod_lt _ (by decide)) _ _ (fun x => hot0 k x)]
  rw [pay2_apply]
  unfold mixR
  by_cases hk : k.val < 448
  · rw [if_pos hk]
    by_cases hr : r.val < 448
    · rw [if_pos hr, if_pos (by omega), hw, subi0, quo0, quo0]
      exact sel_par ⟨r.val / 28, by omega⟩ ⟨k.val / 28, by omega⟩ _
    · rw [if_neg hr, if_neg (by omega), sel_zero]; rfl
  · rw [if_neg hk, if_neg (by omega), sel_zero]; rfl

/-- The mixing matrix of window 1. -/
theorem mix1_apply (w : Vec Ideal S28x28 .f32) (wR : Nat → Nat → ℝ) (hw : ∀ i j : Fin 28, w (ix2 i j) = ((wR i.val j.val : ℝ) : EReal))
    (z : Fin 1) (r k : Fin 512) : mix1 w (ix3 z r k) = ((mixR wR 1 r.val k.val : ℝ) : EReal) := by
  unfold mix1
  rw [pay11_apply, pay9_apply, pay10_apply]
  rw [sum_hot (k.val < 448) (k.val % 28) (Nat.mod_lt _ (by decide)) _ _ (fun x => hot0 k x)]
  rw [sum_hot (64 ≤ r.val) ((r.val - 64) % 28) (Nat.mod_lt _ (by decide)) _ _ (fun x => hot1 r x)]
  rw [pay1_apply]
  unfold mixR
  have hr := r.isLt
  by_cases hk : k.val < 448
  · rw [if_pos hk]
    by_cases hr : 64 ≤ r.val
    · rw [if_pos hr, if_pos (by omega), hw, quo0, quo1 r hr]
      exact sel_par ⟨(r.val - 64) / 28, by omega⟩ ⟨k.val / 28, by omega⟩ _
    · rw [if_neg hr, if_neg (by omega), sel_zero]; rfl
  · rw [if_neg hk, if_neg (by omega), sel_zero]; rfl

end Cert.Rot
end
-- ==== Proof.RotSem.lean ====
/- What the recursions of RotWords leave at each element, for any reading of the floats. -/
module

public import proofs.«01_k».proof.Proof.RotWords
public import Idealize.ShloMosaic.Lib.Pipeline.ReadBack

@[expose] public section

set_option maxRecDepth 16384

noncomputable section

namespace Cert.Rot

open Cert.RotateIdeal Cert.RotateIdeal.Gen Idealize.ShloMosaic Idealize.SL.Sem

variable {F : FTy → Type} [FloatOps F]

/-- The combined products: the sum of the two halves, or their difference turned by 64 columns. -/
def comb (T : Nat → Nat → Nat → F .f32) (b r k : Nat) : F .f32 :=
  if b = 0 then FloatOps.addf (T 0 r k) (T 1 r k)
  else FloatOps.subf (T 0 r ((k + 512 - 64) % 512)) (T 1 r ((k + 512 - 64) % 512))

/-- The products with the first `n` row blocks combined. -/
def part (T : Nat → Nat → Nat → F .f32) (n b r k : Nat) : F .f32 :=
  if 16 * (r % 32 / 8) + r / 32 < n then comb T b r k else T b r k

/-- The rows of row block `n`. -/
theorem rowOf_iff (n r : Nat) (hn : n < 64) (hr : r < 512) : (rowOf n ≤ r ∧ r < rowOf n + 8) ↔ 16 * (r % 32 / 8) + r / 32 = n := by
  unfold rowOf
  obtain ⟨g, h, hg, hh, rfl⟩ : ∃ g h, g < 4 ∧ h < 16 ∧ n = 16 * g + h := ⟨n / 16, n % 16, by omega, by omega, by omega⟩
  rw [show (16 * g + h) % 16 = h by omega, show (16 * g + h) / 16 % 4 = g by omega]
  constructor
  · intro h1
    have e1 : r / 32 = h := by omega
    have e2 : r % 32 / 8 = g := by omega
    rw [e1, e2]
  · intro h1
    have e1 : r / 32 = h := by omega
    have e2 : r % 32 / 8 = g := by omega
    omega

/-- What the stores `L` leave is `f`, element by element. -/
def Sem (L : List (View.Piece (Elt F) S2x512x512 .f32)) (f : Nat → Nat → Nat → F .f32) : Prop :=
  ∀ (b : Fin 2) (r k : Fin 512), View.canon L (ix3 b r k : S2x512x512.Idx) = f b.val r.val k.val

/-- Where an element of a row block lies. -/
theorem rect8_emb (b n : Nat) (z : Fin 1) (j : Fin 8) (k : Fin 512) (hb : b < 2) (hr : rowOf n + j.val < 512) :
    (rect8 b n).emb (ix3 z j k : S1x8x512.Idx) = (ix3 ⟨b, hb⟩ ⟨rowOf n + j.val, hr⟩ k : S2x512x512.Idx) := by
  funext a
  apply Fin.ext
  have hz := z.isLt
  match a with
  | ⟨0, _⟩ => show b % 2 + 1 * z.val = b; omega
  | ⟨1, _⟩ => show rowOf n + 1 * j.val = rowOf n + j.val; omega
  | ⟨2, _⟩ => show 0 + 1 * k.val = k.val; omega

theorem mem_rect8 (b n : Nat) (y : S2x512x512.Idx) : y ∈ (rect8 b n).set → (y 0).val = b % 2 ∧ rowOf n ≤ (y 1).val ∧ (y 1).val < rowOf n + 8 := by
  unfold rect8
  rw [Rect.mem_set_unit]
  intro h
  have h0 : b % 2 ≤ (y 0).val ∧ (y 0).val < b % 2 + 1 := h 0
  have h1 : rowOf n ≤ (y 1).val ∧ (y 1).val < rowOf n + 8 := h 1
  omega

section lists
variable {sg : RefSig} {κ : Kind} {sp : Space} (v : View sg κ sp S2x512x512 .f32)

theorem cast8 (w : Vec F S1x8x512 .f32) (r : Fin 8) (k : Fin 512) :
    shapeCast S8x512 w shapeCasts_S1x8x512_S8x512 (ix2 r k) = w (ix3 0 r k) := by
  pointwise

theorem rows8_apply (L : List (View.Piece (Elt F) S2x512x512 .f32)) (b n : Nat) (r : Fin 8) (k : Fin 512) :
    rows8 v L b n (ix2 r k) = View.canon L ((rect8 b n).emb (ix3 0 r k : S1x8x512.Idx)) := by
  refine (cast8 (View.readCov v L (rect8 b n).toLoadRect : Vec F S1x8x512 .f32) r k).trans ?_
  rw [View.readCov_eq_canon']
  rfl

theorem sumPay_apply (L : List (View.Piece (Elt F) S2x512x512 .f32)) (n : Nat) (z : Fin 1) (r : Fin 8) (k : Fin 512) :
    sumPay v L n (ix3 z r k) = FloatOps.addf (rows8 v L 0 n (ix2 r k)) (rows8 v L 1 n (ix2 r k)) := by
  pointwise [sumPay]

theorem difPay_apply (L : List (View.Piece (Elt F) S2x512x512 .f32)) (n : Nat) (z : Fin 1) (r : Fin 8) (k : Fin 512) :
    difPay v L n (ix3 z r k) = FloatOps.subf (rows8 v L 0 n (ix2 r ⟨(k.val + 512 - 64) % 512, Nat.mod_lt _ (by decide)⟩))
      (rows8 v L 1 n (ix2 r ⟨(k.val + 512 - 64) % 512, Nat.mod_lt _ (by decide)⟩)) := by
  pointwise [difPay]

/-- One more row block combined. -/
theorem sem_step (T : Nat → Nat → Nat → F .f32) (L : List (View.Piece (Elt F) S2x512x512 .f32)) (n : Nat) (hn : n < 64)
    (h : Sem L (part T n)) : Sem (step v L n) (part T (n + 1)) := by
  have hro : rowOf n + 8 ≤ 512 := by unfold rowOf; omega
  have rows : ∀ (b : Fin 2) (j : Fin 8) (k : Fin 512), rows8 v L b.val n (ix2 j k) = T b.val (rowOf n + j.val) k.val := by
    intro b j k
    have hj := j.isLt
    rw [rows8_apply, rect8_emb b.val n 0 j k b.isLt (by omega), h]
    unfold part
    rw [if_neg]
    show ¬ 16 * ((rowOf n + j.val) % 32 / 8) + (rowOf n + j.val) / 32 < n
    rw [(rowOf_iff n (rowOf n + j.val) hn (by omega)).mp (by omega)]
    exact Nat.lt_irrefl n
  intro b r k
  have hr := r.isLt
  by_cases hin : rowOf n ≤ r.val ∧ r.val < rowOf n + 8
  · have hj : r.val - rowOf n < 8 := by omega
    have er : (⟨rowOf n + (r.val - rowOf n), by omega⟩ : Fin 512) = r := Fin.ext (by show rowOf n + (r.val - rowOf n) = r.val; omega)
    have hp : part T (n + 1) b.val r.val k.val = comb T b.val r.val k.val := by
      unfold part
      rw [if_pos]
      rw [(rowOf_iff n r.val hn hr).mp hin]
      exact Nat.lt_succ_self n
    rw [hp]
    have hb := b.isLt
    by_cases hb1 : b.val = 1
    · have eb : (ix3 b r k : S2x512x512.Idx) = (rect8 1 n).emb (ix3 0 ⟨r.val - rowOf n, hj⟩ k : S1x8x512.Idx) := by
        rw [rect8_emb 1 n 0 ⟨r.val - rowOf n, hj⟩ k (by decide) (by show rowOf n + (r.val - rowOf n) < 512; omega)]
        rw [show (⟨1, by decide⟩ : Fin 2) = b from Fin.ext hb1.symm]
        show _ = ix3 b (⟨rowOf n + (r.val - rowOf n), _⟩ : Fin 512) k
        rw [er]
      rw [eb]
      refine (View.canon_cons_emb (rect8 1 n) (difPay v L n) (⟨rect8 0 n, sumPay v L n⟩ :: L) (ix3 0 ⟨r.val - rowOf n, hj⟩ k : S1x8x512.Idx)).trans ?_
      refine (difPay_apply v L n 0 _ k).trans ?_
      rw [show ∀ j k, rows8 v L 0 n (ix2 j k) = _ from rows 0, show ∀ j k, rows8 v L 1 n (ix2 j k) = _ from rows 1]
      unfold comb
      rw [if_neg (by omega)]
      show FloatOps.subf (T 0 (rowOf n + (r.val - rowOf n)) _) (T 1 (rowOf n + (r.val - rowOf n)) _) = _
      rw [show rowOf n + (r.val - rowOf n) = r.val by omega]
    · have hb0 : b.val = 0 := by omega
      have eb : (ix3 b r k : S2x512x512.Idx) = (rect8 0 n).emb (ix3 0 ⟨r.val - rowOf n, hj⟩ k : S1x8x512.Idx) := by
        rw [rect8_emb 0 n 0 ⟨r.val - rowOf n, hj⟩ k (by decide) (by show rowOf n + (r.val - rowOf n) < 512; omega)]
        rw [show (⟨0, by decide⟩ : Fin 2) = b from Fin.ext hb0.symm]
        show _ = ix3 b (⟨rowOf n + (r.val - rowOf n), _⟩ : Fin 512) k
        rw [er]
      unfold step
      rw [View.canon_cons_of_not_mem]
      swap
      · intro hm
        have := (mem_rect8 1 n _ hm).1
        change b.val = 1 % 2 at this
        omega
      rw [eb]
      refine (View.canon_cons_emb (rect8 0 n) (sumPay v L n) L (ix3 0 ⟨r.val - rowOf n, hj⟩ k : S1x8x512.Idx)).trans ?_
      refine (sumPay_apply v L n 0 _ k).trans ?_
      rw [show ∀ j k, rows8 v L 0 n (ix2 j k) = _ from rows 0, show ∀ j k, rows8 v L 1 n (ix2 j k) = _ from rows 1]
      unfold comb
      rw [if_pos hb0]
      show FloatOps.addf (T 0 (rowOf n + (r.val - rowOf n)) _) (T 1 (rowOf n + (r.val - rowOf n)) _) = _
      rw [show rowOf n + (r.val - rowOf n) = r.val by omega]
  · have hp : part T (n + 1) b.val r.val k.val = part T n b.val r.val k.val := by
      unfold part
      have hne := mt (rowOf_iff n r.val hn hr).mpr hin
      by_cases hlt : 16 * (r.val % 32 / 8) + r.val / 32 < n
      · rw [if_pos hlt, if_pos (by omega)]
      · rw [if_neg hlt, if_neg (by omega)]
    rw [hp]
    unfold step
    rw [View.canon_cons_of_not_mem, View.canon_cons_of_not_mem]
    · exact h b r k
    · intro hm
      have := (mem_rect8 0 n _ hm).2
      change rowOf n ≤ r.val ∧ r.val < rowOf n + 8 at this
      omega
    · intro hm
      have := (mem_rect8 1 n _ hm).2
      change rowOf n ≤ r.val ∧ r.val < rowOf n + 8 at this
      omega

/-- The first `n` row blocks combined. -/
theorem sem_tl (T : Nat → Nat → Nat → F .f32) (L : List (View.Piece (Elt F) S2x512x512 .f32)) (h : Sem L T) :
    ∀ n, n ≤ 64 → Sem (tl v L n) (part T n)
  | 0, _ => by
    intro b r k
    rw [show part T 0 b.val r.val k.val = T b.val r.val k.val from if_neg (Nat.not_lt_zero _)]
    exact h b r k
  | n + 1, hn => sem_step v T (tl v L n) n (by omega) (sem_tl T L h n (by omega))

/-- What enters the butterfly. -/
def ent (T : Nat → Nat → Nat → F .f32) (r l : Nat) : F .f32 :=
  if l < 384 then comb T 0 r l else if l < 512 then FloatOps.addf (comb T 0 r l) (comb T 1 r (l - 384)) else comb T 1 r (l - 384)

/-- The rotated value of row `r` at column `d`, before the scaling. -/
def rotE (T : Nat → Nat → Nat → F .f32) (r d : Nat) : F .f32 :=
  bfly FloatOps.addf FloatOps.subf (fun h => ent T (32 * (h % 16) + r) (d % 896)) (d / 896)

theorem castV (w : Vec F S1x8x128 .f32) (r : Fin 8) (k : Fin 128) :
    shapeCast S8x128 w shapeCasts_S1x8x128_S8x128 (ix2 r k) = w (ix3 0 r k) := by
  pointwise

theorem castS (w : FVec F S8x128 .f32) (r : Fin 8) (k : Fin 128) :
    shapeCast S8x128 w shapeCasts_S8x128_S8x128 (ix2 r k) = w (ix2 r k) := by
  pointwise

/-- The stores `L` hold the combined products of row group `g`. -/
def Has (T : Nat → Nat → Nat → F .f32) (L : List (View.Piece (Elt F) S2x512x512 .f32)) (g : Nat) : Prop :=
  ∀ (b : Fin 2) (r k : Fin 512), r.val % 32 / 8 = g → View.canon L (ix3 b r k : S2x512x512.Idx) = comb T b.val r.val k.val

theorem has_tl (T : Nat → Nat → Nat → F .f32) (L : List (View.Piece (Elt F) S2x512x512 .f32)) (h : Sem L T) (g : Nat) (hg : g < 4) :
    Has T (tl v L (16 * (g + 1))) g := by
  intro b r k hr
  rw [sem_tl v T L h (16 * (g + 1)) (by omega) b r k]
  have := r.isLt
  exact if_pos (by omega)

theorem blk_apply (T : Nat → Nat → Nat → F .f32) (L : List (View.Piece (Elt F) S2x512x512 .f32)) (b g c h : Nat) (hg : g < 4) (hb : b < 2) (hc : c < 4)
    (hL : Has T L g) (j : Fin 8) (l : Fin 128) :
    blk v L b g c h (ix2 j l) = comb T b (32 * (h % 16) + (8 * g + j.val)) (128 * c + l.val) := by
  have hj := j.isLt
  have hl := l.isLt
  refine (castV (View.readCov v L (Rect.unit (s := S2x512x512) ![b % 2, 32 * (h % 16) + 8 * (g % 4), 128 * (c % 4)] S1x8x128.size
    (inbV b g c h)).toLoadRect : Vec F S1x8x128 .f32) j l).trans ?_
  rw [View.readCov_eq_canon']
  have e : (Rect.unit (s := S2x512x512) ![b % 2, 32 * (h % 16) + 8 * (g % 4), 128 * (c % 4)] S1x8x128.size (inbV b g c h)).toLoadRect.idx (ix3 0 j l : S1x8x128.Idx)
      = (ix3 ⟨b, hb⟩ ⟨32 * (h % 16) + (8 * g + j.val), by omega⟩ ⟨128 * c + l.val, by omega⟩ : S2x512x512.Idx) := by
    funext a
    apply Fin.ext
    match a with
    | ⟨0, _⟩ => show b % 2 + 1 * 0 = b; omega
    | ⟨1, _⟩ => show 32 * (h % 16) + 8 * (g % 4) + 1 * j.val = 32 * (h % 16) + (8 * g + j.val); omega
    | ⟨2, _⟩ => show 128 * (c % 4) + 1 * l.val = 128 * c + l.val; omega
  show View.canon L ((Rect.unit (s := S2x512x512) ![b % 2, 32 * (h % 16) + 8 * (g % 4), 128 * (c % 4)] S1x8x128.size (inbV b g c h)).toLoadRect.idx (ix3 0 j l : S1x8x128.Idx)) = _
  rw [e]
  exact hL _ _ _ (by show (32 * (h % 16) + (8 * g + j.val)) % 32 / 8 = g; omega)

theorem val_apply (T : Nat → Nat → Nat → F .f32) (L : List (View.Piece (Elt F) S2x512x512 .f32)) (g c h : Nat) (hg : g < 4) (hc : c < 7)
    (hL : Has T L g) (j : Fin 8) (l : Fin 128) :
    val v L g c h (ix2 j l) = ent T (32 * (h % 16) + (8 * g + j.val)) (128 * c + l.val) := by
  have hl := l.isLt
  unfold val ent
  by_cases h3 : c < 3
  · have e1 : Nat.blt c 3 = true := by rcases c with _ | _ | _ | c <;> first | rfl | omega
    rw [e1, if_pos (by omega)]
    exact blk_apply v T L 0 g c h hg (by decide) (by omega) hL j l
  · by_cases h4 : c = 3
    · subst h4
      rw [if_neg (by omega), if_pos (by omega)]
      show FloatOps.addf (blk v L 0 g 3 h (ix2 j l)) (blk v L 1 g 0 h (ix2 j l)) = _
      rw [blk_apply v T L 0 g 3 h hg (by decide) (by omega) hL j l, blk_apply v T L 1 g 0 h hg (by decide) (by omega) hL j l]
      congr 2
      omega
    · have e1 : Nat.blt c 3 = false ∧ Nat.beq c 3 = false := by
        rcases c with _ | _ | _ | _ | _ | _ | _ | c <;> first | exact ⟨rfl, rfl⟩ | omega
      rw [e1.1, e1.2, if_neg (by omega), if_neg (by omega)]
      refine (blk_apply v T L 1 g (c - 3) h hg (by decide) (by omega) hL j l).trans ?_
      congr 1
      omega

/-- The butterfly's value is the rotated value. -/
theorem slab_apply (T : Nat → Nat → Nat → F .f32) (L : List (View.Piece (Elt F) S2x512x512 .f32)) (g c h : Nat) (hg : g < 4) (hc : c < 7) (hh : h < 16)
    (hL : Has T L g) (j : Fin 8) (l : Fin 128) :
    slab v L g c h (ix2 j l) = rotE T (8 * g + j.val) (896 * h + 128 * c + l.val) := by
  have hl := l.isLt
  unfold slab rotE
  rw [bflyB_eq, bfly_map addf subf FloatOps.addf FloatOps.subf (fun w : FVec F S8x128 .f32 => w (ix2 j l)) _ (fun _ _ => rfl) (fun _ _ => rfl)]
  rw [show (896 * h + 128 * c + l.val) % 896 = 128 * c + l.val by omega, show (896 * h + 128 * c + l.val) / 896 = h by omega]
  congr 1
  funext h'
  exact val_apply v T L g c h' hg hc hL j l

/-- Every store of rotated values is a block of them. -/
theorem rl_pieces (T : Nat → Nat → Nat → F .f32) (G : Nat → List (View.Piece (Elt F) S2x512x512 .f32)) (hG : ∀ g, g < 4 → Has T (G g) g) :
    ∀ n, n ≤ 448 → View.PiecesOf (fun y : S32x14336.Idx => rotE T (y 0).val (y 1).val) (rl v G n)
  | 0, _ => trivial
  | n + 1, hn => by
    refine ⟨fun x => ?_, rl_pieces T G hG n (by omega)⟩
    obtain ⟨j, l, rfl⟩ : ∃ (j : Fin 8) (l : Fin 128), x = (ix2 j l : S8x128.Idx) := ⟨x 0, x 1, by funext a; fin_cases a <;> rfl⟩
    show shapeCast S8x128 (slab v (G (n / 112)) (n / 112) (n / 16 % 7) (n % 16)) shapeCasts_S8x128_S8x128 (ix2 j l) = _
    rw [castS, slab_apply v T _ (n / 112) (n / 16 % 7) (n % 16) (by omega) (by omega) (by omega) (hG _ (by omega))]
    show _ = rotE T ((rectR (n / 112) (n / 16 % 7) (n % 16)).emb (ix2 j l : S8x128.Idx) 0).val ((rectR (n / 112) (n / 16 % 7) (n % 16)).emb (ix2 j l : S8x128.Idx) 1).val
    show _ = rotE T (8 * (n / 112 % 4) + 1 * j.val) (896 * (n % 16 % 16) + 128 * (n / 16 % 7 % 7) + 1 * l.val)
    congr 1 <;> omega

/-- The stores of rotated values leave them everywhere. -/
theorem rl_canon (T : Nat → Nat → Nat → F .f32) (G : Nat → List (View.Piece (Elt F) S2x512x512 .f32)) (hG : ∀ g, g < 4 → Has T (G g) g) (y : S32x14336.Idx) :
    View.canon (rl v G 448) y = rotE T (y 0).val (y 1).val :=
  View.canon_apply_of_pieces (fun y : S32x14336.Idx => rotE T (y 0).val (y 1).val) _ (rl_pieces v T G hG 448 (le_refl _)).mem y (View.cover_of_tiledL (rl v G 448) S8x128.size (by sl_kernel_rfl) y)
end lists

end Cert.Rot
end
-- ==== Proof.RotProd.lean ====
/- The products of the rotation kernel, element by element over the real numbers. -/
module

public import proofs.«01_k».proof.Proof.RotMix
public import proofs.«01_k».proof.Proof.RotSem

@[expose] public section

set_option maxRecDepth 16384

noncomputable section

namespace Cert.Rot

open Cert.RotateIdeal Cert.RotateIdeal.Gen Idealize.ShloMosaic Idealize.SL.Sem

/-- The product with the mixing matrix of half `b` at row `R` (chunk `R / 32`, token `R % 32`) and column `k`. -/
def prodR (x : Nat → Nat → ℝ) (w : Nat → Nat → ℝ) (b R k : Nat) : ℝ :=
  ∑ i : Fin 512, x (R % 32) (896 * (R / 32) + 384 * b + i.val) * mixR w b i.val k

section first
variable {sg : RefSig} {κ : Kind} {sp : Space} (v1 : View sg κ sp S32x14336 .bf16) (X : v1.ty.Contents (Elt Ideal))

theorem castX (w : Vec Ideal S32x512 .bf16) (r : Fin 32) (k : Fin 512) :
    shapeCast S32x512 w shapeCasts_S32x512_S32x512 (ix2 r k) = w (ix2 r k) := by
  pointwise

theorem win_apply (x0 : Vec Ideal S32x14336 .bf16) (hX : v1.read (Elt Ideal) X = x0) (b h : Nat) (hb : b < 2) (hh : h < 16) (r : Fin 32) (k : Fin 512) :
    win v1 X b h (ix2 r k) = x0 (ix2 r ⟨896 * h + 384 * b + k.val, by omega⟩) := by
  refine (castX (View.readAt (Elt Ideal) v1 (Rect.unit (s := S32x14336) ![0, 896 * (h % 16) + 384 * (b % 2)] S32x512.size (inbX b h)).toLoadRect X
    : Vec Ideal S32x512 .bf16) r k).trans ?_
  rw [View.readAt_eq_ld, hX]
  show x0 ((Rect.unit (s := S32x14336) ![0, 896 * (h % 16) + 384 * (b % 2)] S32x512.size (inbX b h)).toLoadRect.idx (ix2 r k : S32x512.Idx)) = _
  congr 1
  funext a
  apply Fin.ext
  match a with
  | ⟨0, _⟩ => show 0 + 1 * r.val = r.val; omega
  | ⟨1, _⟩ => show 896 * (h % 16) + 384 * (b % 2) + 1 * k.val = 896 * h + 384 * b + k.val; omega

theorem lhs_apply (b : Nat) (r w : Fin 512) : lhs v1 X b (ix2 r w) = win v1 X b (r.val / 32) (ix2 ⟨r.val % 32, Nat.mod_lt _ (by decide)⟩ w) := by
  unfold lhs
  refine concatenate_ofFn_apply (t := S512x512) (s₁ := S32x512) 0 (fun n : Fin 16 => win v1 X b n.val) _ rfl 32 rfl (ix2 r w : S512x512.Idx)
    ⟨r.val / 32, by omega⟩ rfl (ix2 ⟨r.val % 32, Nat.mod_lt _ (by decide)⟩ w : S32x512.Idx) rfl ?_
  intro b hb
  match b with
  | ⟨0, _⟩ => exact absurd rfl hb
  | ⟨1, _⟩ => rfl

theorem prod_apply (b : Nat) (mix : Vec Ideal S1x512x512 .bf16) (z : Fin 1) (r k : Fin 512) :
    prod v1 X b mix (ix3 z r k) = ∑ i : Fin 512, lhs v1 X b (ix2 r i) * mix (ix3 0 i k) := by
  pointwise [prod]

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s h ih => rw [Finset.sum_insert h, Finset.sum_insert h, EReal.coe_add, ih]

theorem prod_real (x0 : Vec Ideal S32x14336 .bf16) (hX : v1.read (Elt Ideal) X = x0) (xR : Nat → Nat → ℝ) (wR : Nat → Nat → ℝ)
    (hx : ∀ (r : Fin 32) (d : Fin 14336), x0 (ix2 r d) = ((xR r.val d.val : ℝ) : EReal)) (b : Nat) (hb : b < 2) (mix : Vec Ideal S1x512x512 .bf16)
    (hm : ∀ r k : Fin 512, mix (ix3 0 r k) = ((mixR wR b r.val k.val : ℝ) : EReal)) (z : Fin 1) (r k : Fin 512) :
    prod v1 X b mix (ix3 z r k) = ((prodR xR wR b r.val k.val : ℝ) : EReal) := by
  rw [prod_apply]
  unfold prodR
  rw [coe_sum]
  refine Finset.sum_congr rfl fun i _ => ?_
  rw [lhs_apply, win_apply v1 X x0 hX b (r.val / 32) hb (by omega), hx, hm, ← EReal.coe_mul]

theorem rect2_emb (b : Nat) (hb : b < 2) (z : Fin 1) (r k : Fin 512) :
    (rect2 b).emb (ix3 z r k : S1x512x512.Idx) = (ix3 ⟨b, hb⟩ r k : S2x512x512.Idx) := by
  funext a
  apply Fin.ext
  have hz := z.isLt
  match a with
  | ⟨0, _⟩ => show b % 2 + 1 * z.val = b; omega
  | ⟨1, _⟩ => show 0 + 1 * r.val = r.val; omega
  | ⟨2, _⟩ => show 0 + 1 * k.val = k.val; omega

theorem mem_rect2 (b : Nat) (y : S2x512x512.Idx) : y ∈ (rect2 b).set → (y 0).val = b % 2 := by
  unfold rect2
  rw [Rect.mem_set_unit]
  intro h
  have h0 : b % 2 ≤ (y 0).val ∧ (y 0).val < b % 2 + 1 := h 0
  omega

/-- Two stores of the two halves leave them. -/
theorem canon_halves {e : EltTy} (p0 p1 : S1x512x512.Idx → Elt Ideal e) (b : Fin 2) (r k : Fin 512) :
    View.canon (Val := Elt Ideal) (s := S2x512x512) (e := e) [⟨rect2 1, p1⟩, ⟨rect2 0, p0⟩] (ix3 b r k : S2x512x512.Idx)
      = if b.val = 0 then p0 (ix3 0 r k) else p1 (ix3 0 r k) := by
  have hb := b.isLt
  by_cases h : b.val = 0
  · rw [if_pos h, View.canon_cons_of_not_mem]
    · have eb : (ix3 b r k : S2x512x512.Idx) = (rect2 0).emb (ix3 0 r k : S1x512x512.Idx) := by
        rw [rect2_emb 0 (by decide)]; congr 1; exact Fin.ext h
      rw [eb]
      exact View.canon_cons_emb (rect2 0) p0 [] (ix3 0 r k : S1x512x512.Idx)
    · intro hm
      have := mem_rect2 1 _ hm
      change b.val = 1 % 2 at this
      omega
  · rw [if_neg h]
    have eb : (ix3 b r k : S2x512x512.Idx) = (rect2 1).emb (ix3 0 r k : S1x512x512.Idx) := by
      rw [rect2_emb 1 (by decide)]; congr 1; exact Fin.ext (by show b.val = 1; omega)
    rw [eb]
    exact View.canon_cons_emb (rect2 1) p1 _ (ix3 0 r k : S1x512x512.Idx)

/-- The stores of the products leave the products. -/
theorem t0_sem (x0 : Vec Ideal S32x14336 .bf16) (hX : v1.read (Elt Ideal) X = x0) (xR : Nat → Nat → ℝ) (wR : Nat → Nat → ℝ)
    (hx : ∀ (r : Fin 32) (d : Fin 14336), x0 (ix2 r d) = ((xR r.val d.val : ℝ) : EReal)) (m0 m1 : Vec Ideal S1x512x512 .bf16)
    (h0 : ∀ r k : Fin 512, m0 (ix3 0 r k) = ((mixR wR 0 r.val k.val : ℝ) : EReal))
    (h1 : ∀ r k : Fin 512, m1 (ix3 0 r k) = ((mixR wR 1 r.val k.val : ℝ) : EReal)) :
    Sem (t0 v1 X m0 m1) (fun b r k => ((prodR xR wR b r k : ℝ) : EReal)) := by
  intro b r k
  unfold t0
  rw [canon_halves]
  have hb := b.isLt
  by_cases h : b.val = 0
  · rw [if_pos h, h]; exact prod_real v1 X x0 hX xR wR hx 0 (by decide) m0 h0 0 r k
  · rw [if_neg h, show b.val = 1 by omega]; exact prod_real v1 X x0 hX xR wR hx 1 (by decide) m1 h1 0 r k
end first

end Cert.Rot
end
-- ==== Proof.RotReal.lean ====
/- The rotation over the real numbers: the kernel's products, combinations and butterfly give the rotation of the reference. -/
module

public import proofs.«01_k».proof.Proof.RotProd

@[expose] public section

noncomputable section

namespace Cert.Rot

open Idealize.ShloMosaic Idealize.SL.Sem

/-- `comb` over the real numbers. -/
def combR (T : Nat → Nat → Nat → ℝ) (b r k : Nat) : ℝ :=
  if b = 0 then T 0 r k + T 1 r k else T 0 r ((k + 512 - 64) % 512) - T 1 r ((k + 512 - 64) % 512)

/-- `ent` over the real numbers. -/
def entR (T : Nat → Nat → Nat → ℝ) (r l : Nat) : ℝ :=
  if l < 384 then combR T 0 r l else if l < 512 then combR T 0 r l + combR T 1 r (l - 384) else combR T 1 r (l - 384)

/-- `rotE` over the real numbers. -/
def rotE' (T : Nat → Nat → Nat → ℝ) (r d : Nat) : ℝ :=
  bfly (· + ·) (· - ·) (fun h => entR T (32 * (h % 16) + r) (d % 896)) (d / 896)

/-- Real entries as entries of the ideal semantics. -/
def up (T : Nat → Nat → Nat → ℝ) : Nat → Nat → Nat → Ideal .f32 := fun b r k => ((T b r k : ℝ) : EReal)

theorem comb_up (T : Nat → Nat → Nat → ℝ) (b r k : Nat) : comb (F := Ideal) (up T) b r k = ((combR T b r k : ℝ) : EReal) := by
  unfold comb combR
  by_cases h : b = 0
  · rw [if_pos h, if_pos h]; exact (EReal.coe_add _ _).symm
  · rw [if_neg h, if_neg h]; exact (EReal.coe_sub _ _).symm

theorem ent_up (T : Nat → Nat → Nat → ℝ) (r l : Nat) : ent (F := Ideal) (up T) r l = ((entR T r l : ℝ) : EReal) := by
  unfold ent entR
  simp only [comb_up]
  by_cases h : l < 384
  · rw [if_pos h, if_pos h]
  · rw [if_neg h, if_neg h]
    by_cases h2 : l < 512
    · rw [if_pos h2, if_pos h2]; exact (EReal.coe_add _ _).symm
    · rw [if_neg h2, if_neg h2]

theorem rotE_up (T : Nat → Nat → Nat → ℝ) (r d : Nat) : rotE (F := Ideal) (up T) r d = ((rotE' T r d : ℝ) : EReal) := by
  unfold rotE rotE'
  simp only [ent_up]
  exact (bfly_map (α := ℝ) (β := Ideal .f32) (· + ·) (· - ·) FloatOps.addf FloatOps.subf (fun x : ℝ => (x : EReal)) _
    (fun x y => EReal.coe_add x y) (fun x y => EReal.coe_sub x y) _).symm

/-- The rotation of the reference: row `r`, column `d`. -/
def RotR (x w : Nat → Nat → ℝ) (r d : Nat) : ℝ :=
  ∑ k : Fin 28, (∑ p : Fin 512, x r (p.val * 28 + k.val) * sgn (d / 28) p.val) * w (d % 28) k.val

theorem sgn_comm (a b : Nat) : sgn a b = sgn b a := by unfold sgn; rw [Nat.and_comm]

theorem sum_mul_range (n : Nat) (g : Nat → ℝ) : ∀ m : Nat, ∑ i ∈ Finset.range (m * n), g i = ∑ p ∈ Finset.range m, ∑ k ∈ Finset.range n, g (n * p + k)
  | 0 => by simp
  | m + 1 => by
    rw [Nat.succ_mul, Finset.sum_range_add, sum_mul_range n g m, Finset.sum_range_succ, Nat.mul_comm m n]

theorem mixR_zero (w : Nat → Nat → ℝ) (b i k : Nat) (h : ¬(64 * b ≤ i ∧ i - 64 * b < 448 ∧ k < 448)) : mixR w b i k = 0 := if_neg h

theorem prodR_zero (x w : Nat → Nat → ℝ) (b R k : Nat) (hk : 448 ≤ k) : prodR x w b R k = 0 := by
  unfold prodR
  refine Finset.sum_eq_zero fun i _ => ?_
  rw [mixR_zero w b i.val k (by omega), mul_zero]

/-- The terms of one product, by place in the half and entry of the small matrix. -/
theorem prodR_split (x w : Nat → Nat → ℝ) (b h r q j : Nat) (hb : b < 2) (hr : r < 32) (hq : q < 16) (hj : j < 28) :
    prodR x w b (32 * h + r) (28 * q + j)
      = ∑ p ∈ Finset.range 16, ∑ k ∈ Finset.range 28, x r (896 * h + 448 * b + 28 * p + k) * (sgn p q * w j k) := by
  unfold prodR
  rw [show (32 * h + r) % 32 = r by omega, show (32 * h + r) / 32 = h by omega,
    ← Finset.sum_range (fun i => x r (896 * h + 384 * b + i) * mixR w b i (28 * q + j))]
  have key : ∑ i ∈ Finset.range 448, x r (896 * h + 384 * b + (64 * b + i)) * mixR w b (64 * b + i) (28 * q + j)
      = ∑ p ∈ Finset.range 16, ∑ k ∈ Finset.range 28, x r (896 * h + 448 * b + 28 * p + k) * (sgn p q * w j k) := by
    rw [show (448 : Nat) = 16 * 28 by norm_num, sum_mul_range]
    refine Finset.sum_congr rfl fun p hp => Finset.sum_congr rfl fun k hk => ?_
    have hp := Finset.mem_range.mp hp
    have hk := Finset.mem_range.mp hk
    unfold mixR
    rw [if_pos (by omega), show (64 * b + (28 * p + k) - 64 * b) = 28 * p + k by omega, show (28 * p + k) / 28 = p by omega,
      show (28 * p + k) % 28 = k by omega, show (28 * q + j) / 28 = q by omega, show (28 * q + j) % 28 = j by omega,
      show 896 * h + 384 * b + (64 * b + (28 * p + k)) = 896 * h + 448 * b + 28 * p + k by omega]
  rw [← key]
  obtain rfl | rfl : b = 0 ∨ b = 1 := by omega
  · rw [show (512 : Nat) = 448 + 64 by norm_num, Finset.sum_range_add]
    rw [Finset.sum_eq_zero (s := Finset.range 64) (fun i _ => by rw [mixR_zero _ _ _ _ (by omega), mul_zero]), add_zero]
    refine Finset.sum_congr rfl fun i _ => ?_
    rw [show 64 * 0 + i = i by omega]
  · rw [show (512 : Nat) = 64 + 448 by norm_num, Finset.sum_range_add]
    rw [Finset.sum_eq_zero (s := Finset.range 64) (fun i hi => by
      have := Finset.mem_range.mp hi
      rw [mixR_zero _ _ _ _ (by omega), mul_zero]), zero_add]

theorem sgn00 : sgn 0 0 = 1 := if_neg (by decide)
theorem sgn01 : sgn 0 1 = 1 := if_neg (by decide)
theorem sgn10 : sgn 1 0 = 1 := if_neg (by decide)
theorem sgn11 : sgn 1 1 = -1 := if_pos (by decide)

/-- What enters the butterfly is the two-point sign matrix over the halves. -/
theorem entR_split (x w : Nat → Nat → ℝ) (R b' q j : Nat) (hb : b' < 2) (hq : q < 16) (hj : j < 28) :
    entR (prodR x w) R (448 * b' + 28 * q + j) = ∑ b ∈ Finset.range 2, sgn b' b * prodR x w b R (28 * q + j) := by
  rw [Finset.sum_range_succ, Finset.sum_range_succ, Finset.sum_range_zero, zero_add]
  have e0 : ∀ l, combR (prodR x w) 0 R l = prodR x w 0 R l + prodR x w 1 R l := fun l => if_pos rfl
  have e1 : ∀ l, combR (prodR x w) 1 R l = prodR x w 0 R ((l + 512 - 64) % 512) - prodR x w 1 R ((l + 512 - 64) % 512) := fun l => if_neg (by decide)
  unfold entR
  simp only [e0, e1]
  obtain rfl | rfl : b' = 0 ∨ b' = 1 := by omega
  · rw [sgn00, sgn01, one_mul, one_mul, show 448 * 0 + 28 * q + j = 28 * q + j by omega]
    by_cases h : 28 * q + j < 384
    · rw [if_pos h]
    · rw [if_neg h, if_pos (by omega), prodR_zero x w 0 R ((28 * q + j - 384 + 512 - 64) % 512) (by omega),
        prodR_zero x w 1 R ((28 * q + j - 384 + 512 - 64) % 512) (by omega)]
      ring
  · rw [sgn10, sgn11, one_mul, if_neg (by omega), show (448 * 1 + 28 * q + j - 384 + 512 - 64) % 512 = 28 * q + j by omega]
    by_cases h : 448 * 1 + 28 * q + j < 512
    · rw [if_pos h, prodR_zero x w 0 R (448 * 1 + 28 * q + j) (by omega), prodR_zero x w 1 R (448 * 1 + 28 * q + j) (by omega)]
      ring
    · rw [if_neg h]
      ring

/-- The kernel's rotation is the reference's. -/
theorem rot_real (x w : Nat → Nat → ℝ) (r d : Nat) (hr : r < 32) (hd : d < 14336) : rotE' (prodR x w) r d = RotR x w r d := by
  obtain ⟨g, b', q, j, hg, hb, hq, hj, rfl⟩ : ∃ g b' q j, g < 16 ∧ b' < 2 ∧ q < 16 ∧ j < 28 ∧ d = 896 * g + (448 * b' + 28 * q + j) :=
    ⟨d / 896, d % 896 / 448, d % 448 / 28, d % 28, by omega, by omega, by omega, by omega, by omega⟩
  unfold rotE' RotR
  rw [show (896 * g + (448 * b' + 28 * q + j)) % 896 = 448 * b' + 28 * q + j by omega, show (896 * g + (448 * b' + 28 * q + j)) / 896 = g by omega,
    show (896 * g + (448 * b' + 28 * q + j)) / 28 = 32 * g + 16 * b' + q by omega, show (896 * g + (448 * b' + 28 * q + j)) % 28 = j by omega]
  rw [bfly_real _ ⟨g, hg⟩]
  simp only [entR_split x w _ b' q j hb hq hj]
  have e : ∀ (h : Fin 16) (b : Nat), b < 2 → prodR x w b (32 * (h.val % 16) + r) (28 * q + j)
      = ∑ p ∈ Finset.range 16, ∑ k ∈ Finset.range 28, x r (896 * h.val + 448 * b + 28 * p + k) * (sgn p q * w j k) := by
    intro h b hb
    rw [show h.val % 16 = h.val by omega]
    exact prodR_split x w b h.val r q j hb hr hq hj
  rw [← Finset.sum_range (fun k => (∑ p : Fin 512, x r (p.val * 28 + k) * sgn (32 * g + 16 * b' + q) p.val) * w j k)]
  have e2 : ∀ k, ∑ p : Fin 512, x r (p.val * 28 + k) * sgn (32 * g + 16 * b' + q) p.val
      = ∑ h : Fin 16, ∑ b ∈ Finset.range 2, ∑ p ∈ Finset.range 16, x r (896 * h.val + 448 * b + 28 * p + k) * (sgn g h.val * sgn b' b * sgn p q) := by
    intro k
    rw [← Finset.sum_range (fun p => x r (p * 28 + k) * sgn (32 * g + 16 * b' + q) p), show (512 : Nat) = 16 * 32 by norm_num, sum_mul_range,
      Finset.sum_range]
    refine Finset.sum_congr rfl fun h _ => ?_
    rw [show (32 : Nat) = 2 * 16 by norm_num, sum_mul_range]
    refine Finset.sum_congr rfl fun b hb2 => Finset.sum_congr rfl fun p hp => ?_
    have hb2 := Finset.mem_range.mp hb2
    have hp := Finset.mem_range.mp hp
    have := sgn_split ⟨g, hg⟩ h ⟨b', hb⟩ ⟨b, hb2⟩ ⟨q, hq⟩ ⟨p, hp⟩
    simp only at this
    rw [show 2 * 16 * h.val + (16 * b + p) = 32 * h.val + 16 * b + p by omega, show 2 * 16 * g + 16 * b' + q = 32 * g + 16 * b' + q by omega, this,
      sgn_comm q p, show (32 * h.val + 16 * b + p) * 28 + k = 896 * h.val + 448 * b + 28 * p + k by omega]
  simp only [e2, Finset.sum_mul]
  rw [Finset.sum_comm]
  refine Finset.sum_congr rfl fun h _ => ?_
  rw [Finset.sum_comm, Finset.mul_sum]
  refine Finset.sum_congr rfl fun b hb2 => ?_
  rw [e h b (Finset.mem_range.mp hb2), Finset.sum_comm, Finset.mul_sum, Finset.mul_sum]
  refine Finset.sum_congr rfl fun p _ => ?_
  rw [Finset.mul_sum, Finset.mul_sum]
  refine Finset.sum_congr rfl fun k _ => ?_
  ring
end Cert.Rot
end
-- ==== Proof.RotSem2.lean ====
/- The scales, the codes and the activations that the recursions of RotWords leave, element by element. -/
module

public import proofs.«01_k».proof.Proof.RotSem

@[expose] public section

set_option maxRecDepth 16384

noncomputable section

namespace Cert.Rot

open Cert.RotateIdeal Cert.RotateIdeal.Gen Idealize.ShloMosaic Idealize.SL.Sem

variable {F : FTy → Type} [FloatOps F]

/-- The running maximum of the magnitudes of row `r` at the columns that are `l` modulo 128. -/
def mxE (T : Nat → Nat → Nat → F .f32) (r l k : Nat) : F .f32 :=
  @Nat.rec (fun _ => F .f32) (Scalar.ofBits .f32 0x00000000#32)
    (fun n m => FloatOps.maximumf m (FloatOps.absf (rotE T r (896 * (n % 16) + 128 * (n / 16 % 7) + l)))) k

section lists
variable {sg : RefSig} {κ : Kind} {sp : Space} (v : View sg κ sp S2x512x512 .f32)

theorem mx_apply (T : Nat → Nat → Nat → F .f32) (L : List (View.Piece (Elt F) S2x512x512 .f32)) (g : Nat) (hg : g < 4)
    (hL : Has T L g) (j : Fin 8) (l : Fin 128) : ∀ k, mx v L g k (ix2 j l) = mxE T (8 * g + j.val) l.val k
  | 0 => rfl
  | k + 1 => by
    show FloatOps.maximumf (mx v L g k (ix2 j l)) (FloatOps.absf (slab v L g (k / 16 % 7) (k % 16) (ix2 j l))) = _
    rw [mx_apply T L g hg hL j l k, slab_apply v T L g _ _ hg (by omega) (by omega) hL]
    rfl

/-- The largest scaled magnitude of row `r`. -/
def amE (T : Nat → Nat → Nat → Ideal .f32) (r : Nat) : EReal :=
  Finset.fold max (Ideal.ofBits .f32 0xFF800000#32) (fun x : Fin 128 => mxE (F := Ideal) T r x.val 112) Finset.univ * Ideal.ofBits .f32 0x3C08D677#32

/-- The scale that a largest magnitude gives. -/
def scOf (a : EReal) : EReal := if a = 0 then 1 else Ideal.div a (Ideal.ofBits .f32 0x40E00000#32)

/-- Rounding and clipping. -/
def clip (x : EReal) : EReal :=
  min (Ideal.ofBits .f32 0x40E00000#32) (max (Ideal.ofBits .f32 0xC0E00000#32) (Ideal.liftRound Ideal.roundHalfEven x))

theorem amax8_apply (T : Nat → Nat → Nat → Ideal .f32) (L : List (View.Piece (Elt Ideal) S2x512x512 .f32)) (g : Nat) (hg : g < 4) (hL : Has T L g) (j : Fin 8) :
    amax8 (F := Ideal) v L g (ix2 j 0) = amE T (8 * g + j.val) := by
  have e : amax8 (F := Ideal) v L g (ix2 j 0) = Finset.fold max (Ideal.ofBits .f32 0xFF800000#32) (fun x : Fin 128 => mx v L g 112 (ix2 j x)) Finset.univ
      * Ideal.ofBits .f32 0x3C08D677#32 := by
    pointwise [amax8]
  rw [e]
  unfold amE
  simp only [mx_apply v T L g hg hL]

theorem scale8_apply (T : Nat → Nat → Nat → Ideal .f32) (L : List (View.Piece (Elt Ideal) S2x512x512 .f32)) (g : Nat) (hg : g < 4) (hL : Has T L g) (j : Fin 8) :
    scale8 (F := Ideal) v L g (ix2 j 0) = scOf (amE T (8 * g + j.val)) := by
  rw [← amax8_apply v T L g hg hL j]
  pointwise [scale8]
  rfl

theorem piece_sl (T : Nat → Nat → Nat → Ideal .f32) (L : List (View.Piece (Elt Ideal) S2x512x512 .f32)) (g : Nat) (hg : g < 4) (hL : Has T L g) (x : S8x1.Idx) :
    scale8 (F := Ideal) v L g x = scOf (amE T ((rectS g).emb x 0).val) := by
  obtain ⟨j, l, rfl⟩ : ∃ (j : Fin 8) (l : Fin 1), x = (ix2 j l : S8x1.Idx) := ⟨x 0, x 1, by funext a; fin_cases a <;> rfl⟩
  obtain rfl : l = 0 := Subsingleton.elim _ _
  refine (scale8_apply v T L g hg hL j).trans ?_
  show _ = scOf (amE T (8 * (g % 4) + 1 * j.val))
  congr 2
  omega

theorem sl_pieces (T : Nat → Nat → Nat → Ideal .f32) (G : Nat → List (View.Piece (Elt Ideal) S2x512x512 .f32)) (hG : ∀ g, g < 4 → Has T (G g) g) :
    View.PiecesOf (Val := Elt Ideal) (e := .f32) (fun y : S32x1.Idx => scOf (amE T (y 0).val)) (sl v G) :=
  ⟨fun x => piece_sl v T (G 3) 3 (by decide) (hG 3 (by decide)) x, fun x => piece_sl v T (G 2) 2 (by decide) (hG 2 (by decide)) x,
    fun x => piece_sl v T (G 1) 1 (by decide) (hG 1 (by decide)) x, fun x => piece_sl v T (G 0) 0 (by decide) (hG 0 (by decide)) x, trivial⟩

/-- The stores of the scales leave them everywhere. -/
theorem sl_canon (T : Nat → Nat → Nat → Ideal .f32) (G : Nat → List (View.Piece (Elt Ideal) S2x512x512 .f32)) (hG : ∀ g, g < 4 → Has T (G g) g) (y : S32x1.Idx) :
    View.canon (sl v G) y = scOf (amE T (y 0).val) :=
  View.canon_apply_of_pieces (fun y : S32x1.Idx => scOf (amE T (y 0).val)) _
    (sl_pieces v T G hG).mem y
    (View.cover_of_tiledL (sl v G) S8x1.size (by sl_kernel_rfl) y)
end lists

section codes
variable {sg : RefSig} {κ : Kind} {sp : Space} (v5 : View sg κ sp S32x1 .f32) (v8 : View sg κ sp S32x14336 .f32)

theorem inv_apply (LS : List (View.Piece (Elt Ideal) S32x1 .f32)) (r : Fin 32) :
    inv (F := Ideal) v5 LS (ix2 r 0) = Ideal.div 1 (View.canon LS (ix2 r 0 : S32x1.Idx)) := by
  have e : inv (F := Ideal) v5 LS (ix2 r 0) = Ideal.div 1 (v5.readCov LS (Rect.unit (s := S32x1) ![0, 0] ![32, 1] (by decide)).toLoadRect (ix2 r 0 : S32x1.Idx)) := by
    pointwise [inv]
  rw [e, View.readCov_eq_canon']
  show Ideal.div 1 (View.canon LS ((Rect.unit (s := S32x1) ![0, 0] ![32, 1] (by decide)).toLoadRect.idx (ix2 r 0 : S32x1.Idx))) = _
  congr 2
  funext a
  apply Fin.ext
  match a with
  | ⟨0, _⟩ => show 0 + 1 * r.val = r.val; omega
  | ⟨1, _⟩ => rfl

theorem rectC_emb (k : Nat) (hk : k < 112) (r : Fin 32) (l : Fin 128) :
    (rectC k).emb (ix2 r l : S32x128.Idx) = (ix2 r ⟨128 * k + l.val, by omega⟩ : S32x14336.Idx) := by
  funext a
  apply Fin.ext
  match a with
  | ⟨0, _⟩ => show 0 + 1 * r.val = r.val; omega
  | ⟨1, _⟩ => show 128 * (k % 112) + 1 * l.val = 128 * k + l.val; omega

theorem q_apply (LS : List (View.Piece (Elt Ideal) S32x1 .f32)) (LR : List (View.Piece (Elt Ideal) S32x14336 .f32)) (k : Nat) (hk : k < 112) (r : Fin 32) (l : Fin 128) :
    q (F := Ideal) v5 v8 LS LR k (ix2 r l) = clip (View.canon LR (ix2 r ⟨128 * k + l.val, by omega⟩ : S32x14336.Idx) * Ideal.ofBits .f32 0x3C08D677#32
      * Ideal.div 1 (View.canon LS (ix2 r 0 : S32x1.Idx))) := by
  have e : q (F := Ideal) v5 v8 LS LR k (ix2 r l) = clip ((v8.readCov LR (rectC k).toLoadRect (ix2 r l : S32x128.Idx)) * Ideal.ofBits .f32 0x3C08D677#32
      * inv (F := Ideal) v5 LS (ix2 r 0)) := by
    pointwise [q]
    rfl
  rw [e, inv_apply, View.readCov_eq_canon']
  show clip (View.canon LR ((rectC k).emb (ix2 r l : S32x128.Idx)) * _ * _) = _
  rw [rectC_emb k hk]

theorem ex_ix (x : S32x128.Idx) : ∃ (j : Fin 32) (l : Fin 128), x = (ix2 j l : S32x128.Idx) := ⟨x 0, x 1, by funext a; fin_cases a <;> rfl⟩

theorem cl_pieces (LS : List (View.Piece (Elt Ideal) S32x1 .f32)) (LR : List (View.Piece (Elt Ideal) S32x14336 .f32)) (Q : Nat → Nat → EReal)
    (hQ : ∀ (r : Fin 32) (d : Fin 14336), clip (View.canon LR (ix2 r d : S32x14336.Idx) * Ideal.ofBits .f32 0x3C08D677#32
      * Ideal.div 1 (View.canon LS (ix2 r 0 : S32x1.Idx))) = Q r.val d.val) :
    ∀ n, n ≤ 112 → View.PiecesOf (fun y : S32x14336.Idx => (Ideal.fptosi 8 (Q (y 0).val (y 1).val) : Elt Ideal .i8)) (cl (F := Ideal) v5 v8 LS LR n)
  | 0, _ => trivial
  | n + 1, hn => by
    refine ⟨fun x => ?_, cl_pieces LS LR Q hQ n (by omega)⟩
    obtain ⟨j, l, rfl⟩ := ex_ix x
    show Ideal.fptosi 8 (q v5 v8 LS LR n (ix2 j l)) = Ideal.fptosi 8 (Q ((rectC n).emb (ix2 j l : S32x128.Idx) 0).val ((rectC n).emb (ix2 j l : S32x128.Idx) 1).val)
    rw [q_apply v5 v8 LS LR n (by omega), hQ, rectC_emb n (by omega)]
    rfl

theorem al_pieces (LS : List (View.Piece (Elt Ideal) S32x1 .f32)) (LR : List (View.Piece (Elt Ideal) S32x14336 .f32)) (Q : Nat → Nat → EReal)
    (hQ : ∀ (r : Fin 32) (d : Fin 14336), clip (View.canon LR (ix2 r d : S32x14336.Idx) * Ideal.ofBits .f32 0x3C08D677#32
      * Ideal.div 1 (View.canon LS (ix2 r 0 : S32x1.Idx))) = Q r.val d.val) :
    ∀ n, n ≤ 112 → View.PiecesOf (fun y : S32x14336.Idx => (Q (y 0).val (y 1).val : Elt Ideal .fp8e4m3)) (al (F := Ideal) v5 v8 LS LR n)
  | 0, _ => trivial
  | n + 1, hn => by
    refine ⟨fun x => ?_, al_pieces LS LR Q hQ n (by omega)⟩
    obtain ⟨j, l, rfl⟩ := ex_ix x
    show q v5 v8 LS LR n (ix2 j l) = Q ((rectC n).emb (ix2 j l : S32x128.Idx) 0).val ((rectC n).emb (ix2 j l : S32x128.Idx) 1).val
    rw [q_apply v5 v8 LS LR n (by omega), hQ, rectC_emb n (by omega)]
    rfl

/-- The stores of the codes leave them everywhere. -/
theorem cl_canon (LS : List (View.Piece (Elt Ideal) S32x1 .f32)) (LR : List (View.Piece (Elt Ideal) S32x14336 .f32)) (Q : Nat → Nat → EReal)
    (hQ : ∀ (r : Fin 32) (d : Fin 14336), clip (View.canon LR (ix2 r d : S32x14336.Idx) * Ideal.ofBits .f32 0x3C08D677#32
      * Ideal.div 1 (View.canon LS (ix2 r 0 : S32x1.Idx))) = Q r.val d.val) (y : S32x14336.Idx) :
    View.canon (cl (F := Ideal) v5 v8 LS LR 112) y = (Ideal.fptosi 8 (Q (y 0).val (y 1).val) : Elt Ideal .i8) :=
  View.canon_apply_of_pieces (fun y : S32x14336.Idx => (Ideal.fptosi 8 (Q (y 0).val (y 1).val) : Elt Ideal .i8)) _
    (cl_pieces v5 v8 LS LR Q hQ 112 (le_refl _)).mem y (View.cover_of_tiledL (cl v5 v8 LS LR 112) S32x128.size (by sl_kernel_rfl) y)

/-- The stores of the activations leave them everywhere. -/
theorem al_canon (LS : List (View.Piece (Elt Ideal) S32x1 .f32)) (LR : List (View.Piece (Elt Ideal) S32x14336 .f32)) (Q : Nat → Nat → EReal)
    (hQ : ∀ (r : Fin 32) (d : Fin 14336), clip (View.canon LR (ix2 r d : S32x14336.Idx) * Ideal.ofBits .f32 0x3C08D677#32
      * Ideal.div 1 (View.canon LS (ix2 r 0 : S32x1.Idx))) = Q r.val d.val) (y : S32x14336.Idx) :
    View.canon (al (F := Ideal) v5 v8 LS LR 112) y = (Q (y 0).val (y 1).val : Elt Ideal .fp8e4m3) :=
  View.canon_apply_of_pieces (fun y : S32x14336.Idx => (Q (y 0).val (y 1).val : Elt Ideal .fp8e4m3)) _
    (al_pieces v5 v8 LS LR Q hQ 112 (le_refl _)).mem y (View.cover_of_tiledL (al v5 v8 LS LR 112) S32x128.size (by sl_kernel_rfl) y)
end codes
end Cert.Rot
end
-- ==== Proof.RotScale.lean ====
/- The scales and codes: those of the kernel are those of the reference. -/
module

public import proofs.«01_k».proof.Proof.RotReal
public import proofs.«01_k».proof.Proof.RotSem2

@[expose] public section

noncomputable section

namespace Cert.Rot

open Idealize.ShloMosaic Idealize.SL.Sem

/-- The normalising factor is a positive real number. -/
theorem nrm_real : ∃ c : ℝ, 0 < c ∧ Ideal.ofBits .f32 0x3C08D677#32 = ((c : ℝ) : EReal) := by
  refine ⟨(2 ^ 23 + (0x08D677 : Nat) : ℝ) * (2 : ℝ) ^ ((120 : Int) - 127 - 23), by positivity, ?_⟩
  simp [Ideal.ofBits, Ideal.ieee, -EReal.coe_mul]
  try norm_num

theorem seven : Ideal.ofBits .f32 0x40E00000#32 = ((7 : ℝ) : EReal) := by
  simp [Ideal.ofBits, Ideal.ieee, -EReal.coe_mul]
  norm_num

theorem ninf : Ideal.ofBits .f32 0xFF800000#32 = ⊥ := by
  simp [Ideal.ofBits, Ideal.ieee]

theorem abs_coe (r : ℝ) : max (r : EReal) (-(r : EReal)) = ((|r| : ℝ) : EReal) := by
  rw [← EReal.coe_neg, ← EReal.coe_strictMono.monotone.map_max]
  rfl

/-- The largest magnitude of row `r` of the reference. -/
def refA (x w : Nat → Nat → ℝ) (r : Nat) : EReal :=
  Finset.fold max (Ideal.ofBits .f32 0xFF800000#32) (fun d : Fin 14336 => max (((RotR x w r d.val : ℝ) : EReal) * Ideal.ofBits .f32 0x3C08D677#32)
    (-(((RotR x w r d.val : ℝ) : EReal) * Ideal.ofBits .f32 0x3C08D677#32))) Finset.univ

/-- The code of the reference, before its conversion to an integer. -/
def refQ (x w : Nat → Nat → ℝ) (r d : Nat) : EReal :=
  clip (Ideal.div (((RotR x w r d : ℝ) : EReal) * Ideal.ofBits .f32 0x3C08D677#32) (scOf (refA x w r)))

/-- `mxE` over the real numbers. -/
def mxR (T : Nat → Nat → Nat → ℝ) (r l k : Nat) : ℝ :=
  @Nat.rec (fun _ => ℝ) 0 (fun n m => max m |rotE' T r (896 * (n % 16) + 128 * (n / 16 % 7) + l)|) k

theorem mxE_up (T : Nat → Nat → Nat → ℝ) (r l : Nat) : ∀ k, mxE (F := Ideal) (up T) r l k = ((mxR T r l k : ℝ) : EReal)
  | 0 => Ideal.ofBits_zero_f32
  | k + 1 => by
    show max (mxE (F := Ideal) (up T) r l k) (max (rotE (F := Ideal) (up T) r (896 * (k % 16) + 128 * (k / 16 % 7) + l))
      (-(rotE (F := Ideal) (up T) r (896 * (k % 16) + 128 * (k / 16 % 7) + l)))) = _
    rw [mxE_up T r l k]
    erw [rotE_up]
    rw [abs_coe, ← EReal.coe_strictMono.monotone.map_max]
    rfl

theorem mxR_le (T : Nat → Nat → Nat → ℝ) (r l : Nat) (hl : l < 128) (c : ℝ) (hc : 0 < c) (b : EReal) (h0 : 0 ≤ b)
    (hb : ∀ d, d < 14336 → ((|rotE' T r d * c| : ℝ) : EReal) ≤ b) : ∀ k, ((mxR T r l k * c : ℝ) : EReal) ≤ b
  | 0 => by
    show (((0 : ℝ) * c : ℝ) : EReal) ≤ b
    rw [zero_mul]; exact h0
  | k + 1 => by
    show ((max (mxR T r l k) |rotE' T r (896 * (k % 16) + 128 * (k / 16 % 7) + l)| * c : ℝ) : EReal) ≤ b
    rw [max_mul_of_nonneg _ _ hc.le, EReal.coe_strictMono.monotone.map_max]
    refine max_le (mxR_le T r l hl c hc b h0 hb k) ?_
    have := hb (896 * (k % 16) + 128 * (k / 16 % 7) + l) (by omega)
    rwa [abs_mul, abs_of_pos hc] at this

theorem le_mxR (T : Nat → Nat → Nat → ℝ) (r l n : Nat) : ∀ k, n < k → |rotE' T r (896 * (n % 16) + 128 * (n / 16 % 7) + l)| ≤ mxR T r l k
  | 0, h => absurd h (by omega)
  | k + 1, h => by
    show _ ≤ max (mxR T r l k) |rotE' T r (896 * (k % 16) + 128 * (k / 16 % 7) + l)|
    by_cases e : n = k
    · rw [e]; exact le_max_right _ _
    · exact le_trans (le_mxR T r l n k (by omega)) (le_max_left _ _)

theorem fold_mul {n : Nat} (c : ℝ) (hc : 0 < c) (f : Fin n → ℝ) :
    Finset.fold max (⊥ : EReal) (fun x => ((f x : ℝ) : EReal)) Finset.univ * (c : EReal) = Finset.fold max (⊥ : EReal) (fun x => ((f x * c : ℝ) : EReal)) Finset.univ := by
  have hm : Monotone (fun y : EReal => y * (c : EReal)) := fun a b h => mul_le_mul_of_nonneg_right h (EReal.coe_nonneg.mpr hc.le)
  have := Finset.fold_hom (op := max) (op' := max) (b := (⊥ : EReal)) (f := fun x : Fin n => ((f x : ℝ) : EReal)) (s := Finset.univ)
    (m := fun y : EReal => y * (c : EReal)) (fun x y => hm.map_max)
  rw [← this]
  simp only [EReal.bot_mul_coe_of_pos hc, EReal.coe_mul]

/-- The largest magnitudes agree. -/
theorem amE_eq (x w : Nat → Nat → ℝ) (r : Nat) (hr : r < 32) : amE (up (prodR x w)) r = refA x w r := by
  obtain ⟨c, hc, e⟩ := nrm_real
  unfold amE refA
  rw [e, ninf]
  simp only [mxE_up, ← EReal.coe_mul, abs_coe]
  rw [fold_mul c hc]
  apply le_antisymm
  · rw [Finset.fold_max_le]
    refine ⟨bot_le, fun l _ => ?_⟩
    have hd : ∀ d, d < 14336 → ((|rotE' (prodR x w) r d * c| : ℝ) : EReal)
        ≤ Finset.fold max (⊥ : EReal) (fun d : Fin 14336 => ((|RotR x w r d.val * c| : ℝ) : EReal)) Finset.univ := by
      intro d h
      rw [rot_real x w r d hr h, Finset.le_fold_max]
      exact .inr ⟨⟨d, h⟩, Finset.mem_univ _, le_refl _⟩
    exact mxR_le _ r l.val l.isLt c hc _ (le_trans (EReal.coe_nonneg.mpr (abs_nonneg _)) (hd 0 (by decide))) hd 112
  · rw [Finset.fold_max_le]
    refine ⟨bot_le, fun d _ => ?_⟩
    rw [Finset.le_fold_max]
    have hd := d.isLt
    refine .inr ⟨⟨d.val % 128, Nat.mod_lt _ (by decide)⟩, Finset.mem_univ _, ?_⟩
    rw [← rot_real x w r d.val hr hd, abs_mul, abs_of_pos hc]
    refine EReal.coe_le_coe_iff.mpr (mul_le_mul_of_nonneg_right ?_ hc.le)
    obtain ⟨a, c', t, ha, hc', ht, e⟩ : ∃ a c' t, a < 16 ∧ c' < 7 ∧ t < 128 ∧ d.val = 896 * a + 128 * c' + t :=
      ⟨d.val / 896, d.val % 896 / 128, d.val % 896 % 128, by omega, by omega, by omega, by omega⟩
    have := le_mxR (prodR x w) r (d.val % 128) (16 * c' + a) 112 (by omega)
    rwa [show (16 * c' + a) % 16 = a by omega, show (16 * c' + a) / 16 = c' by omega, show c' % 7 = c' by omega, show 896 * a + 128 * c' + d.val % 128 = d.val by omega] at this

theorem scOf_ne (a : EReal) : scOf a ≠ 0 := by
  unfold scOf
  by_cases h : a = 0
  · rw [if_pos h]; exact one_ne_zero
  · rw [if_neg h, seven]
    unfold Ideal.div
    have h7 : ((7 : ℝ) : EReal) ≠ 0 := by
      intro e
      have : (7 : ℝ) = 0 := by exact_mod_cast e
      norm_num at this
    rw [if_neg h7, ← EReal.coe_inv]
    induction a using EReal.rec with
    | bot => rw [EReal.bot_mul_coe_of_pos (by norm_num)]; exact EReal.bot_ne_zero
    | top => rw [EReal.top_mul_coe_of_pos (by norm_num)]; exact EReal.top_ne_zero
    | coe a =>
      rw [← EReal.coe_mul]
      intro e
      have e : a * 7⁻¹ = 0 := by exact_mod_cast e
      have : a = 0 := by linarith
      exact h (by rw [this]; rfl)

theorem div_one (y s : EReal) (hs : s ≠ 0) : y * Ideal.div 1 s = Ideal.div y s := by
  unfold Ideal.div
  rw [if_neg hs, if_neg hs, one_mul]

/-- The codes agree. -/
theorem code_eq (x w : Nat → Nat → ℝ) (r d : Nat) (hr : r < 32) (hd : d < 14336) :
    clip (rotE (F := Ideal) (up (prodR x w)) r d * Ideal.ofBits .f32 0x3C08D677#32 * Ideal.div 1 (scOf (amE (up (prodR x w)) r))) = refQ x w r d := by
  unfold refQ
  rw [amE_eq x w r hr, div_one _ _ (scOf_ne _)]
  erw [rotE_up]
  rw [rot_real x w r d hr hd]
end Cert.Rot
end
-- ==== Proof.RotRefReal.lean ====
/- The reference rotation over real arguments: its codes and scales are those the kernel's side names. -/
module

public import proofs.«01_k».proof.Proof.RotRef
public import proofs.«01_k».proof.Proof.RotScale

@[expose] public section

set_option maxRecDepth 16384

noncomputable section

namespace Cert.RotRef

open Cert.RefRotateIdeal Cert.RefRotateIdeal.Gen Cert.Rot Idealize.ShloMosaic Idealize.ShloMosaic.TcCoe Idealize.SL.Sem

theorem sign_word : ∀ v : Fin 512, IntOp.subi 1#32 (IntOp.muli 2#32 (IntOp.andi (IntOp.ctpop (BitVec.ofNat 32 v.val)) 1#32))
    = if par v.val then (-1#32) else 1#32 := by
  decide +kernel

/-- The sign matrix of the reference is the sign of the index pair. -/
theorem signs_real (q p : Fin 512) : signs (F := Ideal) (ix2 q p) = ((sgn q.val p.val : ℝ) : EReal) := by
  have hv : q.val &&& p.val < 512 := lt_of_le_of_lt Nat.and_le_left q.isLt
  have e : IntOp.andi (BitVec.ofNat 32 q.val) (BitVec.ofNat 32 p.val) = BitVec.ofNat 32 (q.val &&& p.val) := (BitVec.ofNat_and).symm
  rw [signs_apply, e, sign_word ⟨q.val &&& p.val, hv⟩]
  unfold sgn
  dsimp only
  by_cases h : par (q.val &&& p.val) = true
  · rw [if_pos h, if_pos h]
    show ((((-1#32 : BitVec 32).toInt : ℝ)) : EReal) = _
    rw [show (-1#32 : BitVec 32).toInt = -1 by decide]
    norm_num
  · rw [if_neg h, if_neg h]
    show ((((1#32 : BitVec 32).toInt : ℝ)) : EReal) = _
    rw [show (1#32 : BitVec 32).toInt = 1 by decide]
    norm_num

variable (X : FVec Ideal S1x256x14336 .bf16) (W : FVec Ideal S28x28 .f32) (x w : Nat → Nat → ℝ)
variable (hx : ∀ (r : Fin 256) (d : Fin 14336), X (ix3 0 r d) = ((x r.val d.val : ℝ) : EReal))
variable (hw : ∀ i j : Fin 28, W (ix2 i j) = ((w i.val j.val : ℝ) : EReal))
include hx hw

/-- The rotated rows over the real numbers. -/
theorem rotRow_real (r : Fin 256) (d : Fin 14336) :
    rotRow X W (ix3 0 r d) = ((RotR x w r.val d.val : ℝ) : EReal) * Ideal.ofBits .f32 0x3C08D677#32 := by
  rw [rotRow_apply, rot_apply]
  congr 1
  unfold RotR
  rw [coe_sum]
  refine Finset.sum_congr rfl fun k _ => ?_
  rw [EReal.coe_mul, coe_sum, hw]
  congr 1
  refine Finset.sum_congr rfl fun p _ => ?_
  rw [EReal.coe_mul, hx, signs_real]

/-- The largest magnitudes of the rotated rows. -/
theorem amax_real (r : Fin 256) : amax (rotRow X W) (ix2 0 r) = refA x w r.val := by
  rw [amax_apply]
  unfold refA
  congr 1
  funext d
  rw [rotRow_real X W x w hx hw]
  rfl

theorem scale_real (r : Fin 256) : scale (amax (rotRow X W)) (ix2 0 r) = scOf (refA x w r.val) := by
  rw [scale_apply, amax_real X W x w hx hw]
  rfl

theorem clipped_real (r : Fin 256) (d : Fin 14336) :
    clipped (rotRow X W) (scale (amax (rotRow X W))) (ix3 0 r d) = refQ x w r.val d.val := by
  rw [clipped_apply, scale_real X W x w hx hw, rotRow_real X W x w hx hw]
  rfl

end Cert.RotRef
end
-- ==== Proof.RotRuns.lean ====
/- What the generated runs of the rotation kernel's body store, as the recursions of RotWords. -/
module

public import proofs.«01_k».proof.Proof.RotWords

@[expose] public section

set_option maxRecDepth 65536

noncomputable section

namespace Cert.Rot

open Cert.RotateIdeal Cert.RotateIdeal.Gen Idealize.ShloMosaic Idealize.SL.Sem

variable {F : FTy → Type} [FloatOps F]

/-- Which stores of products a row group reads. -/
def grp {α : Type} (a b c d : α) (g : Nat) : α := bif Nat.beq g 0 then a else bif Nat.beq g 1 then b else bif Nat.beq g 2 then c else d

/-- The stores of the two products. -/
theorem first_A (c : Dev nD) (arg1 : Memref sig .tc .vmem S32x14336 .bf16) (harg1 : arg1.IsWhole) (arg2 : Memref sig .tc .vmem S28x28 .f32) (harg2 : arg2.IsWhole) (arg6 : Memref sig .tc .vmem S2x512x512 .bf16) (x0 : Vec F S32x14336 .bf16) (x1 : Vec F S28x28 .f32) : (@kernelRun0_A.sl.HS1_2 F _ c arg1 harg1 arg2 harg2 arg6 x0 x1) = t0 arg1.view (harg1.unread x0) (View.readCov arg6.view (@kernelRun0_A.sl.HS0_2 F _ c arg2 harg2 x1) (rect2 0).toLoadRect) (View.readCov arg6.view (@kernelRun0_A.sl.HS0_2 F _ c arg2 harg2 x1) (rect2 1).toLoadRect) := by sl_kernel_rfl

/-- The stores of products after 16, 32, 48 and 64 row blocks. -/
theorem tl16_A (c : Dev nD) (arg1 : Memref sig .tc .vmem S32x14336 .bf16) (harg1 : arg1.IsWhole) (arg2 : Memref sig .tc .vmem S28x28 .f32) (harg2 : arg2.IsWhole) (arg6 : Memref sig .tc .vmem S2x512x512 .bf16) (arg7 : Memref sig .tc .vmem S2x512x512 .f32) (x0 : Vec F S32x14336 .bf16) (x1 : Vec F S28x28 .f32) : (@kernelRun0_A.sl.HS1_34 F _ c arg1 harg1 arg2 harg2 arg6 arg7 x0 x1) = tl arg7.view (@kernelRun0_A.sl.HS1_2 F _ c arg1 harg1 arg2 harg2 arg6 x0 x1) 16 := by sl_kernel_rfl
theorem tl32_A (c : Dev nD) (arg1 : Memref sig .tc .vmem S32x14336 .bf16) (harg1 : arg1.IsWhole) (arg2 : Memref sig .tc .vmem S28x28 .f32) (harg2 : arg2.IsWhole) (arg6 : Memref sig .tc .vmem S2x512x512 .bf16) (arg7 : Memref sig .tc .vmem S2x512x512 .f32) (x0 : Vec F S32x14336 .bf16) (x1 : Vec F S28x28 .f32) : (@kernelRun0_A.sl.HS1_66 F _ c arg1 harg1 arg2 harg2 arg6 arg7 x0 x1) = tl arg7.view (@kernelRun0_A.sl.HS1_2 F _ c arg1 harg1 arg2 harg2 arg6 x0 x1) 32 := by sl_kernel_rfl
theorem tl48_A (c : Dev nD) (arg1 : Memref sig .tc .vmem S32x14336 .bf16) (harg1 : arg1.IsWhole) (arg2 : Memref sig .tc .vmem S28x28 .f32) (harg2 : arg2.IsWhole) (arg6 : Memref sig .tc .vmem S2x512x512 .bf16) (arg7 : Memref sig .tc .vmem S2x512x512 .f32) (x0 : Vec F S32x14336 .bf16) (x1 : Vec F S28x28 .f32) : (@kernelRun0_A.sl.HS1_98 F _ c arg1 harg1 arg2 harg2 arg6 arg7 x0 x1) = tl arg7.view (@kernelRun0_A.sl.HS1_2 F _ c arg1 harg1 arg2 harg2 arg6 x0 x1) 48 := by sl_kernel_rfl
theorem tl64_A (c : Dev nD) (arg1 : Memref sig .tc .vmem S32x14336 .bf16) (harg1 : arg1.IsWhole) (arg2 : Memref sig .tc .vmem S28x28 .f32) (harg2 : arg2.IsWhole) (arg6 : Memref sig .tc .vmem S2x512x512 .bf16) (arg7 : Memref sig .tc .vmem S2x512x512 .f32) (x0 : Vec F S32x14336 .bf16) (x1 : Vec F S28x28 .f32) : (@kernelRun0_A.sl.HS1_130 F _ c arg1 harg1 arg2 harg2 arg6 arg7 x0 x1) = tl arg7.view (@kernelRun0_A.sl.HS1_2 F _ c arg1 harg1 arg2 harg2 arg6 x0 x1) 64 := by sl_kernel_rfl

/-- The stores of the rotated values. -/
theorem rl_A (c : Dev nD) (arg1 : Memref sig .tc .vmem S32x14336 .bf16) (harg1 : arg1.IsWhole) (arg2 : Memref sig .tc .vmem S28x28 .f32) (harg2 : arg2.IsWhole) (arg6 : Memref sig .tc .vmem S2x512x512 .bf16) (arg7 : Memref sig .tc .vmem S2x512x512 .f32) (x0 : Vec F S32x14336 .bf16) (x1 : Vec F S28x28 .f32) : (@kernelRun0_A.sl.HS2_448 F _ c arg1 harg1 arg2 harg2 arg6 arg7 x0 x1) = rl arg7.view (grp (@kernelRun0_A.sl.HS1_34 F _ c arg1 harg1 arg2 harg2 arg6 arg7 x0 x1) (@kernelRun0_A.sl.HS1_66 F _ c arg1 harg1 arg2 harg2 arg6 arg7 x0 x1) (@kernelRun0_A.sl.HS1_98 F _ c arg1 harg1 arg2 harg2 arg6 arg7 x0 x1) (@kernelRun0_A.sl.HS1_130 F _ c arg1 harg1 arg2 harg2 arg6 arg7 x0 x1)) 448 := by sl_kernel_rfl

/-- The stores of the scales. -/
theorem sl_A (c : Dev nD) (arg1 : Memref sig .tc .vmem S32x14336 .bf16) (harg1 : arg1.IsWhole) (arg2 : Memref sig .tc .vmem S28x28 .f32) (harg2 : arg2.IsWhole) (arg6 : Memref sig .tc .vmem S2x512x512 .bf16) (arg7 : Memref sig .tc .vmem S2x512x512 .f32) (x0 : Vec F S32x14336 .bf16) (x1 : Vec F S28x28 .f32) : (@kernelRun0_A.sl.H4_4 F _ c arg1 harg1 arg2 harg2 arg6 arg7 x0 x1) = sl arg7.view (grp (@kernelRun0_A.sl.HS1_34 F _ c arg1 harg1 arg2 harg2 arg6 arg7 x0 x1) (@kernelRun0_A.sl.HS1_66 F _ c arg1 harg1 arg2 harg2 arg6 arg7 x0 x1) (@kernelRun0_A.sl.HS1_98 F _ c arg1 harg1 arg2 harg2 arg6 arg7 x0 x1) (@kernelRun0_A.sl.HS1_130 F _ c arg1 harg1 arg2 harg2 arg6 arg7 x0 x1)) := by sl_kernel_rfl

/-- The codes are the stores of the recursion. -/
theorem codes_A (c : Dev nD) (i : grid0.Coords) (arg1 : Memref sig .tc .vmem S32x14336 .bf16) (harg1 : arg1.IsWhole) (arg2 : Memref sig .tc .vmem S28x28 .f32) (harg2 : arg2.IsWhole) (arg3 : Memref sig .tc .vmem S32x14336 .i8) (harg3 : arg3.IsWhole) (arg4 : Memref sig .tc .vmem S32x14336 .fp8e4m3) (harg4 : arg4.IsWhole) (arg5 : Memref sig .tc .vmem S32x1 .f32) (harg5 : arg5.IsWhole) (arg6 : Memref sig .tc .vmem S2x512x512 .bf16) (harg6 : arg6.IsWhole) (arg7 : Memref sig .tc .vmem S2x512x512 .f32) (harg7 : arg7.IsWhole) (arg8 : Memref sig .tc .vmem S32x14336 .f32) (harg8 : arg8.IsWhole) (hc0 : cond0_0 i) (x0 : Vec F S32x14336 .bf16) (x1 : Vec F S28x28 .f32) : (kernelRun0_A c i arg1 harg1 arg2 harg2 arg3 harg3 arg4 harg4 arg5 harg5 arg6 harg6 arg7 harg7 arg8 harg8 hc0 x0 x1).1 = cl arg5.view arg8.view (@kernelRun0_A.sl.H4_4 F _ c arg1 harg1 arg2 harg2 arg6 arg7 x0 x1) (@kernelRun0_A.sl.HS2_448 F _ c arg1 harg1 arg2 harg2 arg6 arg7 x0 x1) 112 := by sl_kernel_rfl

/-- The activations are the stores of the recursion. -/
theorem acts_A (c : Dev nD) (i : grid0.Coords) (arg1 : Memref sig .tc .vmem S32x14336 .bf16) (harg1 : arg1.IsWhole) (arg2 : Memref sig .tc .vmem S28x28 .f32) (harg2 : arg2.IsWhole) (arg3 : Memref sig .tc .vmem S32x14336 .i8) (harg3 : arg3.IsWhole) (arg4 : Memref sig .tc .vmem S32x14336 .fp8e4m3) (harg4 : arg4.IsWhole) (arg5 : Memref sig .tc .vmem S32x1 .f32) (harg5 : arg5.IsWhole) (arg6 : Memref sig .tc .vmem S2x512x512 .bf16) (harg6 : arg6.IsWhole) (arg7 : Memref sig .tc .vmem S2x512x512 .f32) (harg7 : arg7.IsWhole) (arg8 : Memref sig .tc .vmem S32x14336 .f32) (harg8 : arg8.IsWhole) (hc0 : cond0_0 i) (x0 : Vec F S32x14336 .bf16) (x1 : Vec F S28x28 .f32) : (kernelRun0_A c i arg1 harg1 arg2 harg2 arg3 harg3 arg4 harg4 arg5 harg5 arg6 harg6 arg7 harg7 arg8 harg8 hc0 x0 x1).2.1 = al arg5.view arg8.view (@kernelRun0_A.sl.H4_4 F _ c arg1 harg1 arg2 harg2 arg6 arg7 x0 x1) (@kernelRun0_A.sl.HS2_448 F _ c arg1 harg1 arg2 harg2 arg6 arg7 x0 x1) 112 := by sl_kernel_rfl

/-- The scales are the stores of the recursion. -/
theorem scales_A (c : Dev nD) (i : grid0.Coords) (arg1 : Memref sig .tc .vmem S32x14336 .bf16) (harg1 : arg1.IsWhole) (arg2 : Memref sig .tc .vmem S28x28 .f32) (harg2 : arg2.IsWhole) (arg3 : Memref sig .tc .vmem S32x14336 .i8) (harg3 : arg3.IsWhole) (arg4 : Memref sig .tc .vmem S32x14336 .fp8e4m3) (harg4 : arg4.IsWhole) (arg5 : Memref sig .tc .vmem S32x1 .f32) (harg5 : arg5.IsWhole) (arg6 : Memref sig .tc .vmem S2x512x512 .bf16) (harg6 : arg6.IsWhole) (arg7 : Memref sig .tc .vmem S2x512x512 .f32) (harg7 : arg7.IsWhole) (arg8 : Memref sig .tc .vmem S32x14336 .f32) (harg8 : arg8.IsWhole) (hc0 : cond0_0 i) (x0 : Vec F S32x14336 .bf16) (x1 : Vec F S28x28 .f32) : (kernelRun0_A c i arg1 harg1 arg2 harg2 arg3 harg3 arg4 harg4 arg5 harg5 arg6 harg6 arg7 harg7 arg8 harg8 hc0 x0 x1).2.2.1 = (@kernelRun0_A.sl.H4_4 F _ c arg1 harg1 arg2 harg2 arg6 arg7 x0 x1) := by sl_kernel_rfl

/-- The carried scratch holds the mixing matrices. -/
theorem mixes_A (c : Dev nD) (i : grid0.Coords) (arg1 : Memref sig .tc .vmem S32x14336 .bf16) (harg1 : arg1.IsWhole) (arg2 : Memref sig .tc .vmem S28x28 .f32) (harg2 : arg2.IsWhole) (arg3 : Memref sig .tc .vmem S32x14336 .i8) (harg3 : arg3.IsWhole) (arg4 : Memref sig .tc .vmem S32x14336 .fp8e4m3) (harg4 : arg4.IsWhole) (arg5 : Memref sig .tc .vmem S32x1 .f32) (harg5 : arg5.IsWhole) (arg6 : Memref sig .tc .vmem S2x512x512 .bf16) (harg6 : arg6.IsWhole) (arg7 : Memref sig .tc .vmem S2x512x512 .f32) (harg7 : arg7.IsWhole) (arg8 : Memref sig .tc .vmem S32x14336 .f32) (harg8 : arg8.IsWhole) (hc0 : cond0_0 i) (x0 : Vec F S32x14336 .bf16) (x1 : Vec F S28x28 .f32) : (kernelRun0_A c i arg1 harg1 arg2 harg2 arg3 harg3 arg4 harg4 arg5 harg5 arg6 harg6 arg7 harg7 arg8 harg8 hc0 x0 x1).2.2.2.1 = (@kernelRun0_A.sl.HS0_2 F _ c arg2 harg2 x1) := by sl_kernel_rfl

/-- The stores of the two products. -/
theorem first_B (c : Dev nD) (arg1 : Memref sig .tc .vmem S32x14336 .bf16) (harg1 : arg1.IsWhole) (arg6 : Memref sig .tc .vmem S2x512x512 .bf16) (harg6 : arg6.IsWhole) (x0 : Vec F S32x14336 .bf16) (xs0 : Vec F S2x512x512 .bf16) : (@kernelRun0_B.sl.HS1_2 F _ c arg1 harg1 arg6 harg6 x0 xs0) = t0 arg1.view (harg1.unread x0) (View.readAt (Elt F) arg6.view (rect2 0).toLoadRect (harg6.unread xs0)) (View.readAt (Elt F) arg6.view (rect2 1).toLoadRect (harg6.unread xs0)) := by sl_kernel_rfl

/-- The stores of products after 16, 32, 48 and 64 row blocks. -/
theorem tl16_B (c : Dev nD) (arg1 : Memref sig .tc .vmem S32x14336 .bf16) (harg1 : arg1.IsWhole) (arg6 : Memref sig .tc .vmem S2x512x512 .bf16) (harg6 : arg6.IsWhole) (arg7 : Memref sig .tc .vmem S2x512x512 .f32) (x0 : Vec F S32x14336 .bf16) (xs0 : Vec F S2x512x512 .bf16) : (@kernelRun0_B.sl.HS1_34 F _ c arg1 harg1 arg6 harg6 arg7 x0 xs0) = tl arg7.view (@kernelRun0_B.sl.HS1_2 F _ c arg1 harg1 arg6 harg6 x0 xs0) 16 := by sl_kernel_rfl
theorem tl32_B (c : Dev nD) (arg1 : Memref sig .tc .vmem S32x14336 .bf16) (harg1 : arg1.IsWhole) (arg6 : Memref sig .tc .vmem S2x512x512 .bf16) (harg6 : arg6.IsWhole) (arg7 : Memref sig .tc .vmem S2x512x512 .f32) (x0 : Vec F S32x14336 .bf16) (xs0 : Vec F S2x512x512 .bf16) : (@kernelRun0_B.sl.HS1_66 F _ c arg1 harg1 arg6 harg6 arg7 x0 xs0) = tl arg7.view (@kernelRun0_B.sl.HS1_2 F _ c arg1 harg1 arg6 harg6 x0 xs0) 32 := by sl_kernel_rfl
theorem tl48_B (c : Dev nD) (arg1 : Memref sig .tc .vmem S32x14336 .bf16) (harg1 : arg1.IsWhole) (arg6 : Memref sig .tc .vmem S2x512x512 .bf16) (harg6 : arg6.IsWhole) (arg7 : Memref sig .tc .vmem S2x512x512 .f32) (x0 : Vec F S32x14336 .bf16) (xs0 : Vec F S2x512x512 .bf16) : (@kernelRun0_B.sl.HS1_98 F _ c arg1 harg1 arg6 harg6 arg7 x0 xs0) = tl arg7.view (@kernelRun0_B.sl.HS1_2 F _ c arg1 harg1 arg6 harg6 x0 xs0) 48 := by sl_kernel_rfl
theorem tl64_B (c : Dev nD) (arg1 : Memref sig .tc .vmem S32x14336 .bf16) (harg1 : arg1.IsWhole) (arg6 : Memref sig .tc .vmem S2x512x512 .bf16) (harg6 : arg6.IsWhole) (arg7 : Memref sig .tc .vmem S2x512x512 .f32) (x0 : Vec F S32x14336 .bf16) (xs0 : Vec F S2x512x512 .bf16) : (@kernelRun0_B.sl.HS1_130 F _ c arg1 harg1 arg6 harg6 arg7 x0 xs0) = tl arg7.view (@kernelRun0_B.sl.HS1_2 F _ c arg1 harg1 arg6 harg6 x0 xs0) 64 := by sl_kernel_rfl

/-- The stores of the rotated values. -/
theorem rl_B (c : Dev nD) (arg1 : Memref sig .tc .vmem S32x14336 .bf16) (harg1 : arg1.IsWhole) (arg6 : Memref sig .tc .vmem S2x512x512 .bf16) (harg6 : arg6.IsWhole) (arg7 : Memref sig .tc .vmem S2x512x512 .f32) (x0 : Vec F S32x14336 .bf16) (xs0 : Vec F S2x512x512 .bf16) : (@kernelRun0_B.sl.HS2_448 F _ c arg1 harg1 arg6 harg6 arg7 x0 xs0) = rl arg7.view (grp (@kernelRun0_B.sl.HS1_34 F _ c arg1 harg1 arg6 harg6 arg7 x0 xs0) (@kernelRun0_B.sl.HS1_66 F _ c arg1 harg1 arg6 harg6 arg7 x0 xs0) (@kernelRun0_B.sl.HS1_98 F _ c arg1 harg1 arg6 harg6 arg7 x0 xs0) (@kernelRun0_B.sl.HS1_130 F _ c arg1 harg1 arg6 harg6 arg7 x0 xs0)) 448 := by sl_kernel_rfl

/-- The stores of the scales. -/
theorem sl_B (c : Dev nD) (arg1 : Memref sig .tc .vmem S32x14336 .bf16) (harg1 : arg1.IsWhole) (arg6 : Memref sig .tc .vmem S2x512x512 .bf16) (harg6 : arg6.IsWhole) (arg7 : Memref sig .tc .vmem S2x512x512 .f32) (x0 : Vec F S32x14336 .bf16) (xs0 : Vec F S2x512x512 .bf16) : (@kernelRun0_B.sl.H4_4 F _ c arg1 harg1 arg6 harg6 arg7 x0 xs0) = sl arg7.view (grp (@kernelRun0_B.sl.HS1_34 F _ c arg1 harg1 arg6 harg6 arg7 x0 xs0) (@kernelRun0_B.sl.HS1_66 F _ c arg1 harg1 arg6 harg6 arg7 x0 xs0) (@kernelRun0_B.sl.HS1_98 F _ c arg1 harg1 arg6 harg6 arg7 x0 xs0) (@kernelRun0_B.sl.HS1_130 F _ c arg1 harg1 arg6 harg6 arg7 x0 xs0)) := by sl_kernel_rfl

/-- The codes are the stores of the recursion. -/
theorem codes_B (c : Dev nD) (i : grid0.Coords) (arg1 : Memref sig .tc .vmem S32x14336 .bf16) (harg1 : arg1.IsWhole) (arg2 : Memref sig .tc .vmem S28x28 .f32) (harg2 : arg2.IsWhole) (arg3 : Memref sig .tc .vmem S32x14336 .i8) (harg3 : arg3.IsWhole) (arg4 : Memref sig .tc .vmem S32x14336 .fp8e4m3) (harg4 : arg4.IsWhole) (arg5 : Memref sig .tc .vmem S32x1 .f32) (harg5 : arg5.IsWhole) (arg6 : Memref sig .tc .vmem S2x512x512 .bf16) (harg6 : arg6.IsWhole) (arg7 : Memref sig .tc .vmem S2x512x512 .f32) (harg7 : arg7.IsWhole) (arg8 : Memref sig .tc .vmem S32x14336 .f32) (harg8 : arg8.IsWhole) (hc0 : ¬cond0_0 i) (x0 : Vec F S32x14336 .bf16) (x1 : Vec F S28x28 .f32) (xs0 : Vec F S2x512x512 .bf16) : (kernelRun0_B c i arg1 harg1 arg2 harg2 arg3 harg3 arg4 harg4 arg5 harg5 arg6 harg6 arg7 harg7 arg8 harg8 hc0 x0 x1 xs0).1 = cl arg5.view arg8.view (@kernelRun0_B.sl.H4_4 F _ c arg1 harg1 arg6 harg6 arg7 x0 xs0) (@kernelRun0_B.sl.HS2_448 F _ c arg1 harg1 arg6 harg6 arg7 x0 xs0) 112 := by sl_kernel_rfl

/-- The activations are the stores of the recursion. -/
theorem acts_B (c : Dev nD) (i : grid0.Coords) (arg1 : Memref sig .tc .vmem S32x14336 .bf16) (harg1 : arg1.IsWhole) (arg2 : Memref sig .tc .vmem S28x28 .f32) (harg2 : arg2.IsWhole) (arg3 : Memref sig .tc .vmem S32x14336 .i8) (harg3 : arg3.IsWhole) (arg4 : Memref sig .tc .vmem S32x14336 .fp8e4m3) (harg4 : arg4.IsWhole) (arg5 : Memref sig .tc .vmem S32x1 .f32) (harg5 : arg5.IsWhole) (arg6 : Memref sig .tc .vmem S2x512x512 .bf16) (harg6 : arg6.IsWhole) (arg7 : Memref sig .tc .vmem S2x512x512 .f32) (harg7 : arg7.IsWhole) (arg8 : Memref sig .tc .vmem S32x14336 .f32) (harg8 : arg8.IsWhole) (hc0 : ¬cond0_0 i) (x0 : Vec F S32x14336 .bf16) (x1 : Vec F S28x28 .f32) (xs0 : Vec F S2x512x512 .bf16) : (kernelRun0_B c i arg1 harg1 arg2 harg2 arg3 harg3 arg4 harg4 arg5 harg5 arg6 harg6 arg7 harg7 arg8 harg8 hc0 x0 x1 xs0).2.1 = al arg5.view arg8.view (@kernelRun0_B.sl.H4_4 F _ c arg1 harg1 arg6 harg6 arg7 x0 xs0) (@kernelRun0_B.sl.HS2_448 F _ c arg1 harg1 arg6 harg6 arg7 x0 xs0) 112 := by sl_kernel_rfl

/-- The scales are the stores of the recursion. -/
theorem scales_B (c : Dev nD) (i : grid0.Coords) (arg1 : Memref sig .tc .vmem S32x14336 .bf16) (harg1 : arg1.IsWhole) (arg2 : Memref sig .tc .vmem S28x28 .f32) (harg2 : arg2.IsWhole) (arg3 : Memref sig .tc .vmem S32x14336 .i8) (harg3 : arg3.IsWhole) (arg4 : Memref sig .tc .vmem S32x14336 .fp8e4m3) (harg4 : arg4.IsWhole) (arg5 : Memref sig .tc .vmem S32x1 .f32) (harg5 : arg5.IsWhole) (arg6 : Memref sig .tc .vmem S2x512x512 .bf16) (harg6 : arg6.IsWhole) (arg7 : Memref sig .tc .vmem S2x512x512 .f32) (harg7 : arg7.IsWhole) (arg8 : Memref sig .tc .vmem S32x14336 .f32) (harg8 : arg8.IsWhole) (hc0 : ¬cond0_0 i) (x0 : Vec F S32x14336 .bf16) (x1 : Vec F S28x28 .f32) (xs0 : Vec F S2x512x512 .bf16) : (kernelRun0_B c i arg1 harg1 arg2 harg2 arg3 harg3 arg4 harg4 arg5 harg5 arg6 harg6 arg7 harg7 arg8 harg8 hc0 x0 x1 xs0).2.2.1 = (@kernelRun0_B.sl.H4_4 F _ c arg1 harg1 arg6 harg6 arg7 x0 xs0) := by sl_kernel_rfl

end Cert.Rot

end
-- ==== Proof.RotBody.lean ====
/- One grid point of the rotation kernel: what its body leaves in each output and in the carried scratch. -/
module

public import proofs.«01_k».proof.Proof.RotScale
public import proofs.«01_k».proof.Proof.RotRuns

@[expose] public section

set_option maxRecDepth 16384

noncomputable section

namespace Cert.Rot

open Cert.RotateIdeal Cert.RotateIdeal.Gen Idealize.ShloMosaic Idealize.SL.Sem

section lists
variable {sg : RefSig} {κ : Kind} {sp : Space} (v5 : View sg κ sp S32x1 .f32) (v7 : View sg κ sp S2x512x512 .f32) (v8 : View sg κ sp S32x14336 .f32)

/-- Each row group reads the products of its rows combined. -/
theorem has_grp (T : Nat → Nat → Nat → Ideal .f32) (L : List (View.Piece (Elt Ideal) S2x512x512 .f32)) (h : Sem L T) :
    ∀ g, g < 4 → Has T (grp (tl v7 L 16) (tl v7 L 32) (tl v7 L 48) (tl v7 L 64) g) g
  | 0, _ => has_tl v7 T L h 0 (by decide)
  | 1, _ => has_tl v7 T L h 1 (by decide)
  | 2, _ => has_tl v7 T L h 2 (by decide)
  | 3, _ => has_tl v7 T L h 3 (by decide)
  | n + 4, hn => absurd hn (by omega)

variable (x w : Nat → Nat → ℝ) (L : List (View.Piece (Elt Ideal) S2x512x512 .f32)) (h : Sem L (up (prodR x w)))
include h

theorem scales_list (y : S32x1.Idx) : View.canon (sl v7 (grp (tl v7 L 16) (tl v7 L 32) (tl v7 L 48) (tl v7 L 64))) y = scOf (refA x w (y 0).val) := by
  have hy : (y 0).val < 32 := (y 0).isLt
  rw [sl_canon v7 (up (prodR x w)) _ (has_grp v7 _ L h), amE_eq x w _ hy]

theorem quot_list (r : Fin 32) (d : Fin 14336) :
    clip (View.canon (rl v7 (grp (tl v7 L 16) (tl v7 L 32) (tl v7 L 48) (tl v7 L 64)) 448) (ix2 r d : S32x14336.Idx) * Ideal.ofBits .f32 0x3C08D677#32
      * Ideal.div 1 (View.canon (sl v7 (grp (tl v7 L 16) (tl v7 L 32) (tl v7 L 48) (tl v7 L 64))) (ix2 r 0 : S32x1.Idx))) = refQ x w r.val d.val := by
  rw [sl_canon v7 (up (prodR x w)) _ (has_grp v7 _ L h), rl_canon v7 (up (prodR x w)) _ (has_grp v7 _ L h)]
  exact code_eq x w r.val d.val r.isLt d.isLt

theorem codes_list (y : S32x14336.Idx) : View.canon (cl v5 v8 (sl v7 (grp (tl v7 L 16) (tl v7 L 32) (tl v7 L 48) (tl v7 L 64)))
    (rl v7 (grp (tl v7 L 16) (tl v7 L 32) (tl v7 L 48) (tl v7 L 64)) 448) 112) y = (Ideal.fptosi 8 (refQ x w (y 0).val (y 1).val) : Elt Ideal .i8) :=
  cl_canon v5 v8 _ _ (refQ x w) (quot_list v7 x w L h) y

theorem acts_list (y : S32x14336.Idx) : View.canon (al v5 v8 (sl v7 (grp (tl v7 L 16) (tl v7 L 32) (tl v7 L 48) (tl v7 L 64)))
    (rl v7 (grp (tl v7 L 16) (tl v7 L 32) (tl v7 L 48) (tl v7 L 64)) 448) 112) y = (refQ x w (y 0).val (y 1).val : Elt Ideal .fp8e4m3) :=
  al_canon v5 v8 _ _ (refQ x w) (quot_list v7 x w L h) y
end lists

/-- The whole small matrix, as the body loads it. -/
def ldW {F : FTy → Type} (arg2 : Memref sig .tc .vmem S28x28 .f32) (harg2 : arg2.IsWhole) (x1 : Vec F S28x28 .f32) : Vec F S28x28 .f32 :=
  View.readAt (Elt F) arg2.view (Rect.unit (s := S28x28) ![0, 0] S28x28.size (by decide)).toLoadRect (harg2.unread x1)

theorem ldW_eq {F : FTy → Type} (arg2 : Memref sig .tc .vmem S28x28 .f32) (harg2 : arg2.IsWhole) (x1 : Vec F S28x28 .f32) : ldW arg2 harg2 x1 = x1 := by
  have hz : (![0, 0] : Fin 2 → Nat) = fun _ => 0 := by funext a; fin_cases a <;> rfl
  unfold ldW
  rw [View.readAt_eq_ld, harg2.read_unread]
  exact View.ld_unit_zero hz _ x1

/-- The stores of the mixing matrices. -/
theorem ml_A {F : FTy → Type} [FloatOps F] (c : Dev nD) (arg2 : Memref sig .tc .vmem S28x28 .f32) (harg2 : arg2.IsWhole) (x1 : Vec F S28x28 .f32) :
    (@kernelRun0_A.sl.HS0_2 F _ c arg2 harg2 x1) = ml (ldW arg2 harg2 x1) := by sl_kernel_rfl

/-- What the carried scratch holds, over the real numbers. -/
def Mixes (S : Vec Ideal S2x512x512 .bf16) (wR : Nat → Nat → ℝ) : Prop :=
  ∀ (b : Fin 2) (r k : Fin 512), S (ix3 b r k) = ((mixR wR b.val r.val k.val : ℝ) : EReal)

theorem ml_mixes (w : Vec Ideal S28x28 .f32) (wR : Nat → Nat → ℝ) (hw : ∀ i j : Fin 28, w (ix2 i j) = ((wR i.val j.val : ℝ) : EReal)) :
    Mixes (View.canon (ml w)) wR := by
  intro b r k
  unfold ml
  rw [canon_halves]
  have hb := b.isLt
  by_cases h : b.val = 0
  · rw [if_pos h, h]; exact mix0_apply w wR hw 0 r k
  · rw [if_neg h, show b.val = 1 by omega]; exact mix1_apply w wR hw 0 r k

theorem cov_mix {sg : RefSig} {κ : Kind} {sp : Space} (v : View sg κ sp S2x512x512 .bf16) (L : List (View.Piece (Elt Ideal) S2x512x512 .bf16)) (wR : Nat → Nat → ℝ)
    (h : Mixes (View.canon L) wR) (b : Nat) (hb : b < 2) (r k : Fin 512) :
    (View.readCov v L (rect2 b).toLoadRect : Vec Ideal S1x512x512 .bf16) (ix3 0 r k) = ((mixR wR b r.val k.val : ℝ) : EReal) := by
  rw [View.readCov_eq_canon']
  show View.canon L ((rect2 b).emb (ix3 0 r k : S1x512x512.Idx)) = _
  rw [rect2_emb b hb]
  exact h ⟨b, hb⟩ r k

theorem read_mix (M : Memref sig .tc .vmem S2x512x512 .bf16) (hM : M.IsWhole) (xs : Vec Ideal S2x512x512 .bf16) (wR : Nat → Nat → ℝ)
    (h : Mixes xs wR) (b : Nat) (hb : b < 2) (r k : Fin 512) :
    (View.readAt (Elt Ideal) M.view (rect2 b).toLoadRect (hM.unread xs) : Vec Ideal S1x512x512 .bf16) (ix3 0 r k) = ((mixR wR b r.val k.val : ℝ) : EReal) := by
  rw [View.readAt_eq_ld, hM.read_unread]
  show xs ((rect2 b).emb (ix3 0 r k : S1x512x512.Idx)) = _
  rw [rect2_emb b hb]
  exact h ⟨b, hb⟩ r k

theorem sem_A (c : Dev nD) (arg1 : Memref sig .tc .vmem S32x14336 .bf16) (harg1 : arg1.IsWhole) (arg2 : Memref sig .tc .vmem S28x28 .f32) (harg2 : arg2.IsWhole) (arg6 : Memref sig .tc .vmem S2x512x512 .bf16) (x0 : Vec Ideal S32x14336 .bf16) (x1 : Vec Ideal S28x28 .f32) (xR wR : Nat → Nat → ℝ)
    (hx : ∀ (r : Fin 32) (d : Fin 14336), x0 (ix2 r d) = ((xR r.val d.val : ℝ) : EReal)) (hw : ∀ i j : Fin 28, x1 (ix2 i j) = ((wR i.val j.val : ℝ) : EReal)) :
    Sem (@kernelRun0_A.sl.HS1_2 Ideal _ c arg1 harg1 arg2 harg2 arg6 x0 x1) (up (prodR xR wR)) := by
  rw [first_A]
  have hm : Mixes (View.canon (@kernelRun0_A.sl.HS0_2 Ideal _ c arg2 harg2 x1)) wR := by
    rw [ml_A, ldW_eq]; exact ml_mixes x1 wR hw
  exact t0_sem arg1.view (harg1.unread x0) x0 (harg1.read_unread x0) xR wR hx _ _ (cov_mix arg6.view _ wR hm 0 (by decide)) (cov_mix arg6.view _ wR hm 1 (by decide))

theorem out2_A (c : Dev nD) (i : grid0.Coords) (arg1 : Memref sig .tc .vmem S32x14336 .bf16) (harg1 : arg1.IsWhole) (arg2 : Memref sig .tc .vmem S28x28 .f32) (harg2 : arg2.IsWhole) (arg3 : Memref sig .tc .vmem S32x14336 .i8) (harg3 : arg3.IsWhole) (arg4 : Memref sig .tc .vmem S32x14336 .fp8e4m3) (harg4 : arg4.IsWhole) (arg5 : Memref sig .tc .vmem S32x1 .f32) (harg5 : arg5.IsWhole) (arg6 : Memref sig .tc .vmem S2x512x512 .bf16) (harg6 : arg6.IsWhole) (arg7 : Memref sig .tc .vmem S2x512x512 .f32) (harg7 : arg7.IsWhole) (arg8 : Memref sig .tc .vmem S32x14336 .f32) (harg8 : arg8.IsWhole) (hc0 : cond0_0 i) (x0 : Vec Ideal S32x14336 .bf16) (x1 : Vec Ideal S28x28 .f32) (xR wR : Nat → Nat → ℝ)
    (hx : ∀ (r : Fin 32) (d : Fin 14336), x0 (ix2 r d) = ((xR r.val d.val : ℝ) : EReal)) (hw : ∀ i j : Fin 28, x1 (ix2 i j) = ((wR i.val j.val : ℝ) : EReal)) (y : S32x14336.Idx) :
    out0_A_2 c i arg1 harg1 arg2 harg2 arg3 harg3 arg4 harg4 arg5 harg5 arg6 harg6 arg7 harg7 arg8 harg8 hc0 x0 x1 y = (Ideal.fptosi 8 (refQ xR wR (y 0).val (y 1).val) : Elt Ideal .i8) := by
  unfold out0_A_2
  rw [View.read_writes_junk_apply_eq_canon, codes_A, sl_A, rl_A, tl16_A, tl32_A, tl48_A, tl64_A]
  exact codes_list arg5.view arg7.view arg8.view xR wR _ (sem_A c arg1 harg1 arg2 harg2 arg6 x0 x1 xR wR hx hw) y

theorem out3_A (c : Dev nD) (i : grid0.Coords) (arg1 : Memref sig .tc .vmem S32x14336 .bf16) (harg1 : arg1.IsWhole) (arg2 : Memref sig .tc .vmem S28x28 .f32) (harg2 : arg2.IsWhole) (arg3 : Memref sig .tc .vmem S32x14336 .i8) (harg3 : arg3.IsWhole) (arg4 : Memref sig .tc .vmem S32x14336 .fp8e4m3) (harg4 : arg4.IsWhole) (arg5 : Memref sig .tc .vmem S32x1 .f32) (harg5 : arg5.IsWhole) (arg6 : Memref sig .tc .vmem S2x512x512 .bf16) (harg6 : arg6.IsWhole) (arg7 : Memref sig .tc .vmem S2x512x512 .f32) (harg7 : arg7.IsWhole) (arg8 : Memref sig .tc .vmem S32x14336 .f32) (harg8 : arg8.IsWhole) (hc0 : cond0_0 i) (x0 : Vec Ideal S32x14336 .bf16) (x1 : Vec Ideal S28x28 .f32) (xR wR : Nat → Nat → ℝ)
    (hx : ∀ (r : Fin 32) (d : Fin 14336), x0 (ix2 r d) = ((xR r.val d.val : ℝ) : EReal)) (hw : ∀ i j : Fin 28, x1 (ix2 i j) = ((wR i.val j.val : ℝ) : EReal)) (y : S32x14336.Idx) :
    out0_A_3 c i arg1 harg1 arg2 harg2 arg3 harg3 arg4 harg4 arg5 harg5 arg6 harg6 arg7 harg7 arg8 harg8 hc0 x0 x1 y = (refQ xR wR (y 0).val (y 1).val : Elt Ideal .fp8e4m3) := by
  unfold out0_A_3
  rw [View.read_writes_junk_apply_eq_canon, acts_A, sl_A, rl_A, tl16_A, tl32_A, tl48_A, tl64_A]
  exact acts_list arg5.view arg7.view arg8.view xR wR _ (sem_A c arg1 harg1 arg2 harg2 arg6 x0 x1 xR wR hx hw) y

theorem out4_A (c : Dev nD) (i : grid0.Coords) (arg1 : Memref sig .tc .vmem S32x14336 .bf16) (harg1 : arg1.IsWhole) (arg2 : Memref sig .tc .vmem S28x28 .f32) (harg2 : arg2.IsWhole) (arg3 : Memref sig .tc .vmem S32x14336 .i8) (harg3 : arg3.IsWhole) (arg4 : Memref sig .tc .vmem S32x14336 .fp8e4m3) (harg4 : arg4.IsWhole) (arg5 : Memref sig .tc .vmem S32x1 .f32) (harg5 : arg5.IsWhole) (arg6 : Memref sig .tc .vmem S2x512x512 .bf16) (harg6 : arg6.IsWhole) (arg7 : Memref sig .tc .vmem S2x512x512 .f32) (harg7 : arg7.IsWhole) (arg8 : Memref sig .tc .vmem S32x14336 .f32) (harg8 : arg8.IsWhole) (hc0 : cond0_0 i) (x0 : Vec Ideal S32x14336 .bf16) (x1 : Vec Ideal S28x28 .f32) (xR wR : Nat → Nat → ℝ)
    (hx : ∀ (r : Fin 32) (d : Fin 14336), x0 (ix2 r d) = ((xR r.val d.val : ℝ) : EReal)) (hw : ∀ i j : Fin 28, x1 (ix2 i j) = ((wR i.val j.val : ℝ) : EReal)) (y : S32x1.Idx) :
    out0_A_4 c i arg1 harg1 arg2 harg2 arg3 harg3 arg4 harg4 arg5 harg5 arg6 harg6 arg7 harg7 arg8 harg8 hc0 x0 x1 y = scOf (refA xR wR (y 0).val) := by
  unfold out0_A_4
  rw [View.read_writes_junk_apply_eq_canon, scales_A, sl_A, tl16_A, tl32_A, tl48_A, tl64_A]
  exact scales_list arg7.view xR wR _ (sem_A c arg1 harg1 arg2 harg2 arg6 x0 x1 xR wR hx hw) y

theorem scratch_A (c : Dev nD) (i : grid0.Coords) (arg1 : Memref sig .tc .vmem S32x14336 .bf16) (harg1 : arg1.IsWhole) (arg2 : Memref sig .tc .vmem S28x28 .f32) (harg2 : arg2.IsWhole) (arg3 : Memref sig .tc .vmem S32x14336 .i8) (harg3 : arg3.IsWhole) (arg4 : Memref sig .tc .vmem S32x14336 .fp8e4m3) (harg4 : arg4.IsWhole) (arg5 : Memref sig .tc .vmem S32x1 .f32) (harg5 : arg5.IsWhole) (arg6 : Memref sig .tc .vmem S2x512x512 .bf16) (harg6 : arg6.IsWhole) (arg7 : Memref sig .tc .vmem S2x512x512 .f32) (harg7 : arg7.IsWhole) (arg8 : Memref sig .tc .vmem S32x14336 .f32) (harg8 : arg8.IsWhole) (hc0 : cond0_0 i) (x0 : Vec Ideal S32x14336 .bf16) (x1 : Vec Ideal S28x28 .f32) (wR : Nat → Nat → ℝ) (hw : ∀ i j : Fin 28, x1 (ix2 i j) = ((wR i.val j.val : ℝ) : EReal)) :
    Mixes (sout0_A_0 c i arg1 harg1 arg2 harg2 arg3 harg3 arg4 harg4 arg5 harg5 arg6 harg6 arg7 harg7 arg8 harg8 hc0 x0 x1) wR := by
  unfold sout0_A_0
  rw [View.read_writes_junk_eq_canon, mixes_A, ml_A, ldW_eq]
  exact ml_mixes x1 wR hw

theorem sem_B (c : Dev nD) (arg1 : Memref sig .tc .vmem S32x14336 .bf16) (harg1 : arg1.IsWhole) (arg6 : Memref sig .tc .vmem S2x512x512 .bf16) (harg6 : arg6.IsWhole) (x0 : Vec Ideal S32x14336 .bf16) (xs0 : Vec Ideal S2x512x512 .bf16) (xR wR : Nat → Nat → ℝ)
    (hx : ∀ (r : Fin 32) (d : Fin 14336), x0 (ix2 r d) = ((xR r.val d.val : ℝ) : EReal)) (hs : Mixes xs0 wR) :
    Sem (@kernelRun0_B.sl.HS1_2 Ideal _ c arg1 harg1 arg6 harg6 x0 xs0) (up (prodR xR wR)) := by
  rw [first_B]
  exact t0_sem arg1.view (harg1.unread x0) x0 (harg1.read_unread x0) xR wR hx _ _ (read_mix arg6 harg6 xs0 wR hs 0 (by decide)) (read_mix arg6 harg6 xs0 wR hs 1 (by decide))

theorem out2_B (c : Dev nD) (i : grid0.Coords) (arg1 : Memref sig .tc .vmem S32x14336 .bf16) (harg1 : arg1.IsWhole) (arg2 : Memref sig .tc .vmem S28x28 .f32) (harg2 : arg2.IsWhole) (arg3 : Memref sig .tc .vmem S32x14336 .i8) (harg3 : arg3.IsWhole) (arg4 : Memref sig .tc .vmem S32x14336 .fp8e4m3) (harg4 : arg4.IsWhole) (arg5 : Memref sig .tc .vmem S32x1 .f32) (harg5 : arg5.IsWhole) (arg6 : Memref sig .tc .vmem S2x512x512 .bf16) (harg6 : arg6.IsWhole) (arg7 : Memref sig .tc .vmem S2x512x512 .f32) (harg7 : arg7.IsWhole) (arg8 : Memref sig .tc .vmem S32x14336 .f32) (harg8 : arg8.IsWhole) (hc0 : ¬cond0_0 i) (x0 : Vec Ideal S32x14336 .bf16) (x1 : Vec Ideal S28x28 .f32) (xs0 : Vec Ideal S2x512x512 .bf16) (xR wR : Nat → Nat → ℝ)
    (hx : ∀ (r : Fin 32) (d : Fin 14336), x0 (ix2 r d) = ((xR r.val d.val : ℝ) : EReal)) (hs : Mixes xs0 wR) (y : S32x14336.Idx) :
    out0_B_2 c i arg1 harg1 arg2 harg2 arg3 harg3 arg4 harg4 arg5 harg5 arg6 harg6 arg7 harg7 arg8 harg8 hc0 x0 x1 xs0 y = (Ideal.fptosi 8 (refQ xR wR (y 0).val (y 1).val) : Elt Ideal .i8) := by
  unfold out0_B_2
  rw [View.read_writes_junk_apply_eq_canon, codes_B, sl_B, rl_B, tl16_B, tl32_B, tl48_B, tl64_B]
  exact codes_list arg5.view arg7.view arg8.view xR wR _ (sem_B c arg1 harg1 arg6 harg6 x0 xs0 xR wR hx hs) y

theorem out3_B (c : Dev nD) (i : grid0.Coords) (arg1 : Memref sig .tc .vmem S32x14336 .bf16) (harg1 : arg1.IsWhole) (arg2 : Memref sig .tc .vmem S28x28 .f32) (harg2 : arg2.IsWhole) (arg3 : Memref sig .tc .vmem S32x14336 .i8) (harg3 : arg3.IsWhole) (arg4 : Memref sig .tc .vmem S32x14336 .fp8e4m3) (harg4 : arg4.IsWhole) (arg5 : Memref sig .tc .vmem S32x1 .f32) (harg5 : arg5.IsWhole) (arg6 : Memref sig .tc .vmem S2x512x512 .bf16) (harg6 : arg6.IsWhole) (arg7 : Memref sig .tc .vmem S2x512x512 .f32) (harg7 : arg7.IsWhole) (arg8 : Memref sig .tc .vmem S32x14336 .f32) (harg8 : arg8.IsWhole) (hc0 : ¬cond0_0 i) (x0 : Vec Ideal S32x14336 .bf16) (x1 : Vec Ideal S28x28 .f32) (xs0 : Vec Ideal S2x512x512 .bf16) (xR wR : Nat → Nat → ℝ)
    (hx : ∀ (r : Fin 32) (d : Fin 14336), x0 (ix2 r d) = ((xR r.val d.val : ℝ) : EReal)) (hs : Mixes xs0 wR) (y : S32x14336.Idx) :
    out0_B_3 c i arg1 harg1 arg2 harg2 arg3 harg3 arg4 harg4 arg5 harg5 arg6 harg6 arg7 harg7 arg8 harg8 hc0 x0 x1 xs0 y = (refQ xR wR (y 0).val (y 1).val : Elt Ideal .fp8e4m3) := by
  unfold out0_B_3
  rw [View.read_writes_junk_apply_eq_canon, acts_B, sl_B, rl_B, tl16_B, tl32_B, tl48_B, tl64_B]
  exact acts_list arg5.view arg7.view arg8.view xR wR _ (sem_B c arg1 harg1 arg6 harg6 x0 xs0 xR wR hx hs) y

theorem out4_B (c : Dev nD) (i : grid0.Coords) (arg1 : Memref sig .tc .vmem S32x14336 .bf16) (harg1 : arg1.IsWhole) (arg2 : Memref sig .tc .vmem S28x28 .f32) (harg2 : arg2.IsWhole) (arg3 : Memref sig .tc .vmem S32x14336 .i8) (harg3 : arg3.IsWhole) (arg4 : Memref sig .tc .vmem S32x14336 .fp8e4m3) (harg4 : arg4.IsWhole) (arg5 : Memref sig .tc .vmem S32x1 .f32) (harg5 : arg5.IsWhole) (arg6 : Memref sig .tc .vmem S2x512x512 .bf16) (harg6 : arg6.IsWhole) (arg7 : Memref sig .tc .vmem S2x512x512 .f32) (harg7 : arg7.IsWhole) (arg8 : Memref sig .tc .vmem S32x14336 .f32) (harg8 : arg8.IsWhole) (hc0 : ¬cond0_0 i) (x0 : Vec Ideal S32x14336 .bf16) (x1 : Vec Ideal S28x28 .f32) (xs0 : Vec Ideal S2x512x512 .bf16) (xR wR : Nat → Nat → ℝ)
    (hx : ∀ (r : Fin 32) (d : Fin 14336), x0 (ix2 r d) = ((xR r.val d.val : ℝ) : EReal)) (hs : Mixes xs0 wR) (y : S32x1.Idx) :
    out0_B_4 c i arg1 harg1 arg2 harg2 arg3 harg3 arg4 harg4 arg5 harg5 arg6 harg6 arg7 harg7 arg8 harg8 hc0 x0 x1 xs0 y = scOf (refA xR wR (y 0).val) := by
  unfold out0_B_4
  rw [View.read_writes_junk_apply_eq_canon, scales_B, sl_B, tl16_B, tl32_B, tl48_B, tl64_B]
  exact scales_list arg7.view xR wR _ (sem_B c arg1 harg1 arg6 harg6 x0 xs0 xR wR hx hs) y
end Cert.Rot
end
-- ==== Proof.RotRun.lean ====
/- The rotation kernel: from the blocks of its grid points to the whole result arrays. -/
module

public import proofs.«01_k».proof.Proof.Gen.RotateIdeal.Value
public import proofs.«01_k».proof.Proof.RotBody
public import Idealize.ShloMosaic.Lib.Pipeline.ValueKit.Point
public import Idealize.ShloMosaic.Lib.StableHlo.RunRead

@[expose] public section

set_option maxRecDepth 16384

noncomputable section

namespace Cert.Rot

open Cert.RotateIdeal Cert.RotateIdeal.Gen Idealize.ShloMosaic Idealize.ShloMosaic.TcCoe Idealize.SL.Sem
open Idealize.ShloMosaic.Pipeline (Dat)

/-- The codes, as a whole array. -/
def codesOf (x w : Nat → Nat → ℝ) : S256x14336.Idx → Elt Ideal .i8 := fun i => Ideal.fptosi 8 (refQ x w (i 0).val (i 1).val)
/-- The eight-bit float activations, as a whole array. -/
def actsOf (x w : Nat → Nat → ℝ) : S256x14336.Idx → Elt Ideal .fp8e4m3 := fun i => refQ x w (i 0).val (i 1).val
/-- The scales, as a whole array. -/
def scalesOf (x w : Nat → Nat → ℝ) : S256x1.Idx → Elt Ideal .f32 := fun i => scOf (refA x w (i 0).val)

variable (m : (ℓ : Loc nD τ sig) → Buf (Elt Ideal) ℓ)

theorem castRows (v : Vec Ideal S1x256x14336 .bf16) (r : Fin 256) (d : Fin 14336) :
    shapeCast S256x14336 v shapeCasts_S1x256x14336_S256x14336 (ix2 r d) = v (ix3 0 r d) := by
  pointwise

/-- The rows the kernel's call is given are the argument's. -/
theorem rows_apply (c : Dev nD) (r : Fin 256) (d : Fin 14336) :
    (V m c main_v0 : Vec Ideal S256x14336 .bf16) (ix2 r d) = m ((c : Thread nD τ).loc main_arg0) (ix3 0 r d) := by
  have h : V m c main_v0 = shapeCast S256x14336 (m ((c : Thread nD τ).loc main_arg0)) shapeCasts_S1x256x14336_S256x14336 := by
    show StableHlo.after hostOps0 (fun b => m (c, b)) (Proc.devRef .tc main_v0) = _
    after_results
    rfl
  rw [h]
  exact castRows _ r d

theorem index_facts (t : Fin cfg0.N) :
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) := by
  revert t
  decide +kernel

theorem blk0 (c : Dev nD) (t : Fin cfg0.N) (r : Fin 32) (k : Fin 14336) (q : Fin 256) (hq : q.val = 32 * t.val + r.val) :
    (iblk m c 0 t : Vec Ideal S32x14336 .bf16) (ix2 r k) = m ((c : Thread nD τ).loc main_arg0) (ix3 0 q k) := by
  have h := (index_facts t).1
  rw [← rows_apply m c q]
  blk_ext [iblk, h.1, h.2]

theorem blk1 (c : Dev nD) (t : Fin cfg0.N) (i j : Fin 28) :
    (iblk m c 1 t : Vec Ideal S28x28 .f32) (ix2 i j) = m ((c : Thread nD τ).loc main_arg1) (ix2 i j) := by
  have h := (index_facts t).2.1
  blk_ext [iblk, V, h.1, h.2]

theorem read_blk2 (c : Dev nD) (t : Fin cfg0.N) (G : Buf (Elt Ideal) ((c : Thread nD τ).loc main_v1_0)) (r : Fin 32) (n : Fin 14336) (q : Fin 256) (hq : q.val = 32 * t.val + r.val) :
    ((cfg0.win 2).blk t).view.read (Elt Ideal) G (ix2 r n) = G (ix2 q n) := by
  have h := (index_facts t).2.2.1
  blk_ext [h.1, h.2]

theorem read_blk3 (c : Dev nD) (t : Fin cfg0.N) (G : Buf (Elt Ideal) ((c : Thread nD τ).loc main_v1_1)) (r : Fin 32) (n : Fin 14336) (q : Fin 256) (hq : q.val = 32 * t.val + r.val) :
    ((cfg0.win 3).blk t).view.read (Elt Ideal) G (ix2 r n) = G (ix2 q n) := by
  have h := (index_facts t).2.2.2.1
  blk_ext [h.1, h.2]

theorem read_blk4 (c : Dev nD) (t : Fin cfg0.N) (G : Buf (Elt Ideal) ((c : Thread nD τ).loc main_v1_2)) (r : Fin 32) (n : Fin 1) (q : Fin 256) (hq : q.val = 32 * t.val + r.val) :
    ((cfg0.win 4).blk t).view.read (Elt Ideal) G (ix2 r n) = G (ix2 q n) := by
  have h := (index_facts t).2.2.2.2
  blk_ext [h.1, h.2]

section point
variable (c : Dev nD) (x w : Nat → Nat → ℝ)
  (hx : ∀ (r : Fin 256) (d : Fin 14336), m ((c : Thread nD τ).loc main_arg0) (ix3 0 r d) = ((x r.val d.val : ℝ) : EReal))
  (hw : ∀ i j : Fin 28, m ((c : Thread nD τ).loc main_arg1) (ix2 i j) = ((w i.val j.val : ℝ) : EReal))
include hx hw

theorem blk0_real (t : Fin cfg0.N) (r : Fin 32) (k : Fin 14336) :
    (iblk m c 0 t : Vec Ideal S32x14336 .bf16) (ix2 r k) = (((fun r d => x (32 * t.val + r) d) r.val k.val : ℝ) : EReal) := by
  have ht : t.val < 8 := t.isLt
  rw [blk0 m c t r k ⟨32 * t.val + r.val, by omega⟩ rfl, hx]

theorem blk1_real (t : Fin cfg0.N) (i j : Fin 28) :
    (iblk m c 1 t : Vec Ideal S28x28 .f32) (ix2 i j) = ((w i.val j.val : ℝ) : EReal) := by
  rw [blk1, hw]

/-- The first point leaves the mixing matrices in the carried scratch. -/
theorem scratch_first (t : Fin cfg0.N) (h0 : t.val % 8 = 0) : Mixes (outsAt0 m c t.val t.isLt).2.2.2 w := by
  have hW := blk1_real m c x w hx hw t
  have e := outsAt0_A m c t h0
  generalize outsAt0 m c t.val t.isLt = o at e ⊢
  subst e
  dsimp only
  generalize iblk m c 0 t = x0 at *
  generalize iblk m c 1 t = x1 at *
  exact scratch_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) x0 x1 w hW

/-- The other points leave the carried scratch as it was. -/
theorem scratch_next (t : Fin cfg0.N) (h0 : ¬t.val % 8 = 0) :
    (outsAt0 m c t.val t.isLt).2.2.2 = (outsAt0 m c (t.val - 1) (Nat.lt_of_le_of_lt (Nat.sub_le _ _) t.isLt)).2.2.2 :=
  (congrArg (fun p => p.2.2.2) (outsAt0_B m c t h0)).trans rfl

/-- Every point leaves the mixing matrices in the carried scratch. -/
theorem scratch_point : ∀ (n : Nat) (hn : n < cfg0.N), Mixes (outsAt0 m c n hn).2.2.2 w
  | 0, hn => scratch_first m c x w hx hw ⟨0, hn⟩ rfl
  | n + 1, hn => by
    have h8 : n + 1 < 8 := hn
    have e := scratch_next m c x w hx hw ⟨n + 1, hn⟩ (by show ¬ (n + 1) % 8 = 0; omega)
    exact e ▸ scratch_point n (Nat.lt_of_succ_lt hn)

/-- What a point writes to the codes. -/
theorem point2 (t : Fin cfg0.N) (y : S32x14336.Idx) : (outsAt0 m c t.val t.isLt).1 y = (Ideal.fptosi 8 (refQ (fun r d => x (32 * t.val + r) d) w (y 0).val (y 1).val) : Elt Ideal .i8) := by
  have hX := blk0_real m c x w hx hw t
  have hW := blk1_real m c x w hx hw t
  by_cases h0 : t.val % 8 = 0
  · have e : (outsAt0 m c t.val t.isLt).1 = out0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) := congrArg (fun p => p.1) (outsAt0_A m c t h0)
    rw [e]
    generalize iblk m c 0 t = x0 at *
    generalize iblk m c 1 t = x1 at *
    exact out2_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) x0 x1 (fun r d => x (32 * t.val + r) d) w hX hW y
  · have hS := scratch_point m c x w hx hw (t.val - 1) (Nat.lt_of_le_of_lt (Nat.sub_le _ _) t.isLt)
    have e : (outsAt0 m c t.val t.isLt).1 = out0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (outsAt0 m c (t.val - 1) (Nat.lt_of_le_of_lt (Nat.sub_le _ _) t.isLt)).2.2.2 := congrArg (fun p => p.1) (outsAt0_B m c t h0)
    rw [e]
    generalize (outsAt0 m c (t.val - 1) (Nat.lt_of_le_of_lt (Nat.sub_le _ _) t.isLt)).2.2.2 = xs at *
    generalize iblk m c 0 t = x0 at *
    generalize iblk m c 1 t = x1 at *
    exact out2_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) x0 x1 xs (fun r d => x (32 * t.val + r) d) w hX hS y

/-- What a point writes to the activations. -/
theorem point3 (t : Fin cfg0.N) (y : S32x14336.Idx) : (outsAt0 m c t.val t.isLt).2.1 y = (refQ (fun r d => x (32 * t.val + r) d) w (y 0).val (y 1).val : Elt Ideal .fp8e4m3) := by
  have hX := blk0_real m c x w hx hw t
  have hW := blk1_real m c x w hx hw t
  by_cases h0 : t.val % 8 = 0
  · have e : (outsAt0 m c t.val t.isLt).2.1 = out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) := congrArg (fun p => p.2.1) (outsAt0_A m c t h0)
    rw [e]
    generalize iblk m c 0 t = x0 at *
    generalize iblk m c 1 t = x1 at *
    exact out3_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) x0 x1 (fun r d => x (32 * t.val + r) d) w hX hW y
  · have hS := scratch_point m c x w hx hw (t.val - 1) (Nat.lt_of_le_of_lt (Nat.sub_le _ _) t.isLt)
    have e : (outsAt0 m c t.val t.isLt).2.1 = out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (outsAt0 m c (t.val - 1) (Nat.lt_of_le_of_lt (Nat.sub_le _ _) t.isLt)).2.2.2 := congrArg (fun p => p.2.1) (outsAt0_B m c t h0)
    rw [e]
    generalize (outsAt0 m c (t.val - 1) (Nat.lt_of_le_of_lt (Nat.sub_le _ _) t.isLt)).2.2.2 = xs at *
    generalize iblk m c 0 t = x0 at *
    generalize iblk m c 1 t = x1 at *
    exact out3_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) x0 x1 xs (fun r d => x (32 * t.val + r) d) w hX hS y

/-- What a point writes to the scales. -/
theorem point4 (t : Fin cfg0.N) (y : S32x1.Idx) : (outsAt0 m c t.val t.isLt).2.2.1 y = scOf (refA (fun r d => x (32 * t.val + r) d) w (y 0).val) := by
  have hX := blk0_real m c x w hx hw t
  have hW := blk1_real m c x w hx hw t
  by_cases h0 : t.val % 8 = 0
  · have e : (outsAt0 m c t.val t.isLt).2.2.1 = out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) := congrArg (fun p => p.2.2.1) (outsAt0_A m c t h0)
    rw [e]
    generalize iblk m c 0 t = x0 at *
    generalize iblk m c 1 t = x1 at *
    exact out4_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) x0 x1 (fun r d => x (32 * t.val + r) d) w hX hW y
  · have hS := scratch_point m c x w hx hw (t.val - 1) (Nat.lt_of_le_of_lt (Nat.sub_le _ _) t.isLt)
    have e : (outsAt0 m c t.val t.isLt).2.2.1 = out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (outsAt0 m c (t.val - 1) (Nat.lt_of_le_of_lt (Nat.sub_le _ _) t.isLt)).2.2.2 := congrArg (fun p => p.2.2.1) (outsAt0_B m c t h0)
    rw [e]
    generalize (outsAt0 m c (t.val - 1) (Nat.lt_of_le_of_lt (Nat.sub_le _ _) t.isLt)).2.2.2 = xs at *
    generalize iblk m c 0 t = x0 at *
    generalize iblk m c 1 t = x1 at *
    exact out4_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) x0 x1 xs (fun r d => x (32 * t.val + r) d) w hX hS y

theorem flushed2_eq (t : Fin cfg0.N) : (dats m 0 c).flushed 2 t = ((cfg0.win 2).blk t).view.read (Elt Ideal) (codesOf x w : Buf (Elt Ideal) ((c : Thread nD τ).loc main_v1_0)) := by
  rw [Value.flushed2]
  have ht : t.val < 8 := t.isLt
  funext j
  obtain ⟨r, n, rfl⟩ : ∃ (r : Fin 32) (n : Fin 14336), j = ix2 r n := ⟨j 0, j 1, by funext a; fin_cases a <;> rfl⟩
  show (outsAt0 m c t.val t.isLt).1 (ix2 r n) = _
  rw [read_blk2 c t _ r n ⟨32 * t.val + r.val, by omega⟩ rfl]
  exact point2 m c x w hx hw t (ix2 r n : S32x14336.Idx)

theorem flushed3_eq (t : Fin cfg0.N) : (dats m 0 c).flushed 3 t = ((cfg0.win 3).blk t).view.read (Elt Ideal) (actsOf x w : Buf (Elt Ideal) ((c : Thread nD τ).loc main_v1_1)) := by
  rw [Value.flushed3]
  have ht : t.val < 8 := t.isLt
  funext j
  obtain ⟨r, n, rfl⟩ : ∃ (r : Fin 32) (n : Fin 14336), j = ix2 r n := ⟨j 0, j 1, by funext a; fin_cases a <;> rfl⟩
  show (outsAt0 m c t.val t.isLt).2.1 (ix2 r n) = _
  rw [read_blk3 c t _ r n ⟨32 * t.val + r.val, by omega⟩ rfl]
  exact point3 m c x w hx hw t (ix2 r n : S32x14336.Idx)

theorem flushed4_eq (t : Fin cfg0.N) : (dats m 0 c).flushed 4 t = ((cfg0.win 4).blk t).view.read (Elt Ideal) (scalesOf x w : Buf (Elt Ideal) ((c : Thread nD τ).loc main_v1_2)) := by
  rw [Value.flushed4]
  have ht : t.val < 8 := t.isLt
  funext j
  obtain ⟨r, n, rfl⟩ : ∃ (r : Fin 32) (n : Fin 1), j = ix2 r n := ⟨j 0, j 1, by funext a; fin_cases a <;> rfl⟩
  show (outsAt0 m c t.val t.isLt).2.2.1 (ix2 r n) = _
  rw [read_blk4 c t _ r n ⟨32 * t.val + r.val, by omega⟩ rfl]
  exact point4 m c x w hx hw t (ix2 r n : S32x1.Idx)
end point

theorem mem_blk2 (t : Fin cfg0.N) (i : S256x14336.Idx) (hl : 32 * t.val ≤ (i 0).val) (hh : (i 0).val < 32 * t.val + 32) :
    i ∈ ((cfg0.win 2).blk t).view.set := by
  show i ∈ ((View.whole main_v1_0).slice (win0_2.rect t)).set
  rw [View.set_slice_whole, Rect.mem_set_unit]
  have h1 : (i 1).val < 14336 := (i 1).isLt
  have h := (index_facts t).2.2.1
  intro a
  match a with
  | ⟨0, _⟩ => show win0_2.index t 0 * 32 ≤ (i 0).val ∧ (i 0).val < win0_2.index t 0 * 32 + 32; rw [h.1]; omega
  | ⟨1, _⟩ => show win0_2.index t 1 * 14336 ≤ (i 1).val ∧ (i 1).val < win0_2.index t 1 * 14336 + 14336; rw [h.2]; omega

theorem mem_blk3 (t : Fin cfg0.N) (i : S256x14336.Idx) (hl : 32 * t.val ≤ (i 0).val) (hh : (i 0).val < 32 * t.val + 32) :
    i ∈ ((cfg0.win 3).blk t).view.set := by
  show i ∈ ((View.whole main_v1_1).slice (win0_3.rect t)).set
  rw [View.set_slice_whole, Rect.mem_set_unit]
  have h1 : (i 1).val < 14336 := (i 1).isLt
  have h := (index_facts t).2.2.2.1
  intro a
  match a with
  | ⟨0, _⟩ => show win0_3.index t 0 * 32 ≤ (i 0).val ∧ (i 0).val < win0_3.index t 0 * 32 + 32; rw [h.1]; omega
  | ⟨1, _⟩ => show win0_3.index t 1 * 14336 ≤ (i 1).val ∧ (i 1).val < win0_3.index t 1 * 14336 + 14336; rw [h.2]; omega

theorem mem_blk4 (t : Fin cfg0.N) (i : S256x1.Idx) (hl : 32 * t.val ≤ (i 0).val) (hh : (i 0).val < 32 * t.val + 32) :
    i ∈ ((cfg0.win 4).blk t).view.set := by
  show i ∈ ((View.whole main_v1_2).slice (win0_4.rect t)).set
  rw [View.set_slice_whole, Rect.mem_set_unit]
  have h1 : (i 1).val < 1 := (i 1).isLt
  have h := (index_facts t).2.2.2.2
  intro a
  match a with
  | ⟨0, _⟩ => show win0_4.index t 0 * 32 ≤ (i 0).val ∧ (i 0).val < win0_4.index t 0 * 32 + 32; rw [h.1]; omega
  | ⟨1, _⟩ => show win0_4.index t 1 * 1 ≤ (i 1).val ∧ (i 1).val < win0_4.index t 1 * 1 + 1; rw [h.2]; omega

theorem cover2 (i : S256x14336.Idx) : ∃ t : Fin cfg0.N, (cfg0.win 2).flush t = true ∧ i ∈ ((cfg0.win 2).blk t).view.set := by
  have h0 : (i 0).val < 256 := (i 0).isLt
  have hN : cfg0.N = 8 := rfl
  exact ⟨⟨(i 0).val / 32, by omega⟩, flush0_2 _, mem_blk2 _ i (by dsimp only; omega) (by dsimp only; omega)⟩

theorem cover3 (i : S256x14336.Idx) : ∃ t : Fin cfg0.N, (cfg0.win 3).flush t = true ∧ i ∈ ((cfg0.win 3).blk t).view.set := by
  have h0 : (i 0).val < 256 := (i 0).isLt
  have hN : cfg0.N = 8 := rfl
  exact ⟨⟨(i 0).val / 32, by omega⟩, flush0_3 _, mem_blk3 _ i (by dsimp only; omega) (by dsimp only; omega)⟩

theorem cover4 (i : S256x1.Idx) : ∃ t : Fin cfg0.N, (cfg0.win 4).flush t = true ∧ i ∈ ((cfg0.win 4).blk t).view.set := by
  have h0 : (i 0).val < 256 := (i 0).isLt
  have hN : cfg0.N = 8 := rfl
  exact ⟨⟨(i 0).val / 32, by omega⟩, flush0_4 _, mem_blk4 _ i (by dsimp only; omega) (by dsimp only; omega)⟩

section final
variable (c : Dev nD) (x w : Nat → Nat → ℝ)
  (hx : ∀ (r : Fin 256) (d : Fin 14336), m ((c : Thread nD τ).loc main_arg0) (ix3 0 r d) = ((x r.val d.val : ℝ) : EReal))
  (hw : ∀ i j : Fin 28, m ((c : Thread nD τ).loc main_arg1) (ix2 i j) = ((w i.val j.val : ℝ) : EReal))
include hx hw

/-- The array of codes after the kernel. -/
theorem final2 : (dats m 0 c).arrAt 2 cfg0.N = codesOf x w :=
  (dats m 0 c).arrAt_eq_of_cover 2 (codesOf x w : Buf (Elt Ideal) ((c : Thread nD τ).loc main_v1_0)) (fun t _ => flushed2_eq m c x w hx hw t) cover2

/-- The array of activations after the kernel. -/
theorem final3 : (dats m 0 c).arrAt 3 cfg0.N = actsOf x w :=
  (dats m 0 c).arrAt_eq_of_cover 3 (actsOf x w : Buf (Elt Ideal) ((c : Thread nD τ).loc main_v1_1)) (fun t _ => flushed3_eq m c x w hx hw t) cover3

/-- The array of scales after the kernel. -/
theorem final4 : (dats m 0 c).arrAt 4 cfg0.N = scalesOf x w :=
  (dats m 0 c).arrAt_eq_of_cover 4 (scalesOf x w : Buf (Elt Ideal) ((c : Thread nD τ).loc main_v1_2)) (fun t _ => flushed4_eq m c x w hx hw t) cover4
end final

end Cert.Rot
end
-- ==== Proof.RotRefRun.lean ====
/- The reference rotation: from its one block to the whole result arrays. -/
module

public import proofs.«01_k».proof.Proof.RotRefValue
public import proofs.«01_k».proof.Proof.RotRefReal
public import proofs.«01_k».proof.Proof.RotRun

@[expose] public section

set_option maxRecDepth 16384

noncomputable section

namespace Cert.RotRef

open Cert.RefRotateIdeal Cert.RefRotateIdeal.Gen Cert.Rot Idealize.ShloMosaic Idealize.ShloMosaic.TcCoe Idealize.SL.Sem
open Idealize.ShloMosaic.Pipeline (Dat)

theorem negSeven : Ideal.ofBits .f32 0xC0E00000#32 = ((-7 : ℝ) : EReal) := by
  simp [Ideal.ofBits, Ideal.ieee, -EReal.coe_mul]
  norm_num

/-- A code before its conversion is an integer from −7 to 7. -/
theorem clip_int (z : EReal) : ∃ n : ℤ, -7 ≤ n ∧ n ≤ 7 ∧ clip z = (((n : ℤ) : ℝ) : EReal) := by
  unfold clip
  rw [seven, negSeven]
  induction z using EReal.rec with
  | bot =>
    refine ⟨-7, by norm_num, by norm_num, ?_⟩
    rw [Ideal.liftRound_bot, max_eq_left bot_le, min_eq_right (EReal.coe_le_coe_iff.mpr (by norm_num))]
    norm_num
  | top =>
    refine ⟨7, by norm_num, by norm_num, ?_⟩
    rw [Ideal.liftRound_top, max_eq_right le_top, min_eq_left le_top]
    norm_num
  | coe r =>
    refine ⟨min 7 (max (-7) (Ideal.roundHalfEven r)), le_min (by norm_num) (le_max_left _ _), min_le_left _ _, ?_⟩
    rw [Ideal.liftRound_coe, ← EReal.coe_strictMono.monotone.map_max, ← EReal.coe_strictMono.monotone.map_min]
    push_cast
    rfl

/-- Converting such an integer to an eight-bit word and back gives it again. -/
theorem back_int (n : ℤ) (hl : -7 ≤ n) (hh : n ≤ 7) :
    (((Ideal.fptosi 8 (((n : ℤ) : ℝ) : EReal)).toInt : ℝ) : EReal) = (((n : ℤ) : ℝ) : EReal) := by
  have e : Ideal.toIntClamped (-128) 127 (((n : ℤ) : ℝ) : EReal) = n := by
    show max (-128) (min 127 (if 0 ≤ (n : ℝ) then ⌊(n : ℝ)⌋ else ⌈(n : ℝ)⌉)) = n
    rw [Int.floor_intCast, Int.ceil_intCast, ite_self]
    omega
  have e2 : Ideal.fptosi 8 (((n : ℤ) : ℝ) : EReal) = BitVec.ofInt 8 n := by
    show BitVec.ofInt 8 (Ideal.toIntClamped (-128) 127 (((n : ℤ) : ℝ) : EReal)) = _
    rw [e]
  have key : ∀ k : Fin 15, (BitVec.ofInt 8 ((k.val : ℤ) - 7)).toInt = (k.val : ℤ) - 7 := by decide
  have h := key ⟨(n + 7).toNat, by omega⟩
  have hn : (((n + 7).toNat : ℤ)) - 7 = n := by omega
  dsimp only at h
  rw [hn] at h
  rw [e2, h]

theorem back (x w : Nat → Nat → ℝ) (r d : Nat) : (((Ideal.fptosi 8 (refQ x w r d)).toInt : ℝ) : EReal) = refQ x w r d := by
  unfold refQ
  obtain ⟨n, hl, hh, e⟩ := clip_int (Ideal.div (((RotR x w r d : ℝ) : EReal) * Ideal.ofBits .f32 0x3C08D677#32) (scOf (refA x w r)))
  rw [e]
  exact back_int n hl hh

section body
variable {F : FTy → Type} [FloatOps F]

theorem out2_apply (x0 : Vec F S256x14336 .f32) (x1 : Vec F S256x1 .f32) (y : S256x14336.Idx) :
    out0_2 x0 x1 y = FloatOps.fptosi 8 (x0 y) := by
  have hz : (![0, 0] : Fin 2 → Nat) = fun _ => 0 := by funext a; fin_cases a <;> rfl
  unfold out0_2
  rw [View.canon_unit_zero hz, View.ld_unit_zero hz _ x0]
  show FloatOps.fptosi 8 (shapeCast S256x14336 x0 shapeCasts_S256x14336_S256x14336 y) = _
  rw [shapeCast_apply _ _ y y rfl]

theorem out3_apply (x0 : Vec F S256x14336 .f32) (x1 : Vec F S256x1 .f32) (y : S256x14336.Idx) :
    out0_3 x0 x1 y = FloatOps.truncf .fp8e4m3 bitsLt_fp8e4m3_bf16 (FloatOps.sitofp .bf16 (FloatOps.fptosi 8 (x0 y))) := by
  have hz : (![0, 0] : Fin 2 → Nat) = fun _ => 0 := by funext a; fin_cases a <;> rfl
  unfold out0_3
  rw [View.canon_unit_zero hz, View.ld_unit_zero hz _ x0]
  show FloatOps.truncf .fp8e4m3 bitsLt_fp8e4m3_bf16 (FloatOps.sitofp .bf16 (FloatOps.fptosi 8 (shapeCast S256x14336 x0 shapeCasts_S256x14336_S256x14336 y))) = _
  rw [shapeCast_apply _ _ y y rfl]

theorem out4_apply (x0 : Vec F S256x14336 .f32) (x1 : Vec F S256x1 .f32) (y : S256x1.Idx) :
    out0_4 x0 x1 y = x1 y := by
  have hz : (![0, 0] : Fin 2 → Nat) = fun _ => 0 := by funext a; fin_cases a <;> rfl
  unfold out0_4
  rw [View.canon_unit_zero hz, View.ld_unit_zero hz _ x1]
  show shapeCast S256x1 x1 shapeCasts_S256x1_S256x1 y = _
  rw [shapeCast_apply _ _ y y rfl]
end body

theorem castCodes (v : Vec Ideal S1x256x14336 .f32) (r : Fin 256) (d : Fin 14336) :
    shapeCast S256x14336 v shapeCasts_S1x256x14336_S256x14336 (ix2 r d) = v (ix3 0 r d) := by
  pointwise

theorem castScales (v : Vec Ideal S1x256 .f32) (r : Fin 256) :
    shapeCast S256x1 v shapeCasts_S1x256_S256x1 (ix2 r 0) = v (ix2 0 r) := by
  pointwise

variable (m : (ℓ : Loc nD τ sig) → Buf (Elt Ideal) ℓ)

theorem index_facts (t : Fin cfg0.N) :
    (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) := by
  revert t
  decide +kernel

theorem read_blk0 (c : Dev nD) (t : Fin cfg0.N) (G : Buf (Elt Ideal) ((c : Thread nD τ).loc main_v35)) (r : Fin 256) (n : Fin 14336) :
    ((cfg0.win 0).blk t).view.read (Elt Ideal) G (ix2 r n) = G (ix2 r n) := by
  have h := (index_facts t).1
  blk_ext [h.1, h.2]

theorem blk0 (c : Dev nD) (t : Fin cfg0.N) (r : Fin 256) (k : Fin 14336) :
    (iblk m c 0 t : Vec Ideal S256x14336 .f32) (ix2 r k) = (V m c main_v35 : Vec Ideal S256x14336 .f32) (ix2 r k) :=
  read_blk0 c t (V m c main_v35) r k

theorem read_blk1 (c : Dev nD) (t : Fin cfg0.N) (G : Buf (Elt Ideal) ((c : Thread nD τ).loc main_v36)) (r : Fin 256) (n : Fin 1) :
    ((cfg0.win 1).blk t).view.read (Elt Ideal) G (ix2 r n) = G (ix2 r n) := by
  have h := (index_facts t).2.1
  blk_ext [h.1, h.2]

theorem blk1 (c : Dev nD) (t : Fin cfg0.N) (r : Fin 256) (k : Fin 1) :
    (iblk m c 1 t : Vec Ideal S256x1 .f32) (ix2 r k) = (V m c main_v36 : Vec Ideal S256x1 .f32) (ix2 r k) :=
  read_blk1 c t (V m c main_v36) r k

theorem read_blk2 (c : Dev nD) (t : Fin cfg0.N) (G : Buf (Elt Ideal) ((c : Thread nD τ).loc main_v37_0)) (r : Fin 256) (n : Fin 14336) :
    ((cfg0.win 2).blk t).view.read (Elt Ideal) G (ix2 r n) = G (ix2 r n) := by
  have h := (index_facts t).2.2.1
  blk_ext [h.1, h.2]

theorem read_blk3 (c : Dev nD) (t : Fin cfg0.N) (G : Buf (Elt Ideal) ((c : Thread nD τ).loc main_v37_1)) (r : Fin 256) (n : Fin 14336) :
    ((cfg0.win 3).blk t).view.read (Elt Ideal) G (ix2 r n) = G (ix2 r n) := by
  have h := (index_facts t).2.2.2.1
  blk_ext [h.1, h.2]

theorem read_blk4 (c : Dev nD) (t : Fin cfg0.N) (G : Buf (Elt Ideal) ((c : Thread nD τ).loc main_v37_2)) (r : Fin 256) (n : Fin 1) :
    ((cfg0.win 4).blk t).view.read (Elt Ideal) G (ix2 r n) = G (ix2 r n) := by
  have h := (index_facts t).2.2.2.2
  blk_ext [h.1, h.2]

theorem mem_blk2 (t : Fin cfg0.N) (i : S256x14336.Idx) : i ∈ ((cfg0.win 2).blk t).view.set := by
  show i ∈ ((View.whole main_v37_0).slice (win0_2.rect t)).set
  rw [View.set_slice_whole, Rect.mem_set_unit]
  have h0 : (i 0).val < 256 := (i 0).isLt
  have h1 : (i 1).val < 14336 := (i 1).isLt
  have h := (index_facts t).2.2.1
  intro a
  match a with
  | ⟨0, _⟩ => show win0_2.index t 0 * 256 ≤ (i 0).val ∧ (i 0).val < win0_2.index t 0 * 256 + 256; rw [h.1]; omega
  | ⟨1, _⟩ => show win0_2.index t 1 * 14336 ≤ (i 1).val ∧ (i 1).val < win0_2.index t 1 * 14336 + 14336; rw [h.2]; omega

theorem mem_blk3 (t : Fin cfg0.N) (i : S256x14336.Idx) : i ∈ ((cfg0.win 3).blk t).view.set := by
  show i ∈ ((View.whole main_v37_1).slice (win0_3.rect t)).set
  rw [View.set_slice_whole, Rect.mem_set_unit]
  have h0 : (i 0).val < 256 := (i 0).isLt
  have h1 : (i 1).val < 14336 := (i 1).isLt
  have h := (index_facts t).2.2.2.1
  intro a
  match a with
  | ⟨0, _⟩ => show win0_3.index t 0 * 256 ≤ (i 0).val ∧ (i 0).val < win0_3.index t 0 * 256 + 256; rw [h.1]; omega
  | ⟨1, _⟩ => show win0_3.index t 1 * 14336 ≤ (i 1).val ∧ (i 1).val < win0_3.index t 1 * 14336 + 14336; rw [h.2]; omega

theorem mem_blk4 (t : Fin cfg0.N) (i : S256x1.Idx) : i ∈ ((cfg0.win 4).blk t).view.set := by
  show i ∈ ((View.whole main_v37_2).slice (win0_4.rect t)).set
  rw [View.set_slice_whole, Rect.mem_set_unit]
  have h0 : (i 0).val < 256 := (i 0).isLt
  have h1 : (i 1).val < 1 := (i 1).isLt
  have h := (index_facts t).2.2.2.2
  intro a
  match a with
  | ⟨0, _⟩ => show win0_4.index t 0 * 256 ≤ (i 0).val ∧ (i 0).val < win0_4.index t 0 * 256 + 256; rw [h.1]; omega
  | ⟨1, _⟩ => show win0_4.index t 1 * 1 ≤ (i 1).val ∧ (i 1).val < win0_4.index t 1 * 1 + 1; rw [h.2]; omega

section final
variable (c : Dev nD) (x w : Nat → Nat → ℝ)
  (hx : ∀ (r : Fin 256) (d : Fin 14336), m ((c : Thread nD τ).loc main_arg0) (ix3 0 r d) = ((x r.val d.val : ℝ) : EReal))
  (hw : ∀ i j : Fin 28, m ((c : Thread nD τ).loc main_arg1) (ix2 i j) = ((w i.val j.val : ℝ) : EReal))
include hx hw

theorem codes_at (r : Fin 256) (d : Fin 14336) : (V m c main_v35 : Vec Ideal S256x14336 .f32) (ix2 r d) = refQ x w r.val d.val := by
  rw [codes_eq m c]
  exact (castCodes _ r d).trans (clipped_real _ _ x w hx hw r d)

theorem scales_at (r : Fin 256) : (V m c main_v36 : Vec Ideal S256x1 .f32) (ix2 r 0) = scOf (refA x w r.val) := by
  rw [scales_eq m c]
  exact (castScales _ r).trans (scale_real _ _ x w hx hw r)

theorem flushed2_eq (t : Fin cfg0.N) : (dats m 0 c).flushed 2 t = ((cfg0.win 2).blk t).view.read (Elt Ideal) (codesOf x w : Buf (Elt Ideal) ((c : Thread nD τ).loc main_v37_0)) := by
  rw [RotRefValue.flushed2]
  funext j
  obtain ⟨r, n, rfl⟩ : ∃ (r : Fin 256) (n : Fin 14336), j = ix2 r n := ⟨j 0, j 1, by funext a; fin_cases a <;> rfl⟩
  show out0_2 (iblk m c 0 t) (iblk m c 1 t) (ix2 r n) = _
  rw [read_blk2 c t _ r n, out2_apply, blk0 m c t r n, codes_at m c x w hx hw r n]
  rfl

theorem flushed3_eq (t : Fin cfg0.N) : (dats m 0 c).flushed 3 t = ((cfg0.win 3).blk t).view.read (Elt Ideal) (actsOf x w : Buf (Elt Ideal) ((c : Thread nD τ).loc main_v37_1)) := by
  rw [RotRefValue.flushed3]
  funext j
  obtain ⟨r, n, rfl⟩ : ∃ (r : Fin 256) (n : Fin 14336), j = ix2 r n := ⟨j 0, j 1, by funext a; fin_cases a <;> rfl⟩
  show out0_3 (iblk m c 0 t) (iblk m c 1 t) (ix2 r n) = _
  rw [read_blk3 c t _ r n, out3_apply, blk0 m c t r n, codes_at m c x w hx hw r n]
  exact back x w r.val n.val

theorem flushed4_eq (t : Fin cfg0.N) : (dats m 0 c).flushed 4 t = ((cfg0.win 4).blk t).view.read (Elt Ideal) (scalesOf x w : Buf (Elt Ideal) ((c : Thread nD τ).loc main_v37_2)) := by
  rw [RotRefValue.flushed4]
  funext j
  obtain ⟨r, n, rfl⟩ : ∃ (r : Fin 256) (n : Fin 1), j = ix2 r n := ⟨j 0, j 1, by funext a; fin_cases a <;> rfl⟩
  obtain rfl : n = 0 := Subsingleton.elim _ _
  show out0_4 (iblk m c 0 t) (iblk m c 1 t) (ix2 r 0) = _
  rw [read_blk4 c t _ r 0, out4_apply, blk1 m c t r 0, scales_at m c x w hx hw r]
  rfl

/-- The reference's array of codes. -/
theorem final2 : (dats m 0 c).arrAt 2 cfg0.N = codesOf x w :=
  have hN : cfg0.N = 1 := rfl
  (dats m 0 c).arrAt_eq_of_cover 2 (codesOf x w : Buf (Elt Ideal) ((c : Thread nD τ).loc main_v37_0)) (fun t _ => flushed2_eq m c x w hx hw t)
    fun i => ⟨⟨0, by omega⟩, flush0_2 _, mem_blk2 _ i⟩

/-- The reference's array of activations. -/
theorem final3 : (dats m 0 c).arrAt 3 cfg0.N = actsOf x w :=
  have hN : cfg0.N = 1 := rfl
  (dats m 0 c).arrAt_eq_of_cover 3 (actsOf x w : Buf (Elt Ideal) ((c : Thread nD τ).loc main_v37_1)) (fun t _ => flushed3_eq m c x w hx hw t)
    fun i => ⟨⟨0, by omega⟩, flush0_3 _, mem_blk3 _ i⟩

/-- The reference's array of scales. -/
theorem final4 : (dats m 0 c).arrAt 4 cfg0.N = scalesOf x w :=
  have hN : cfg0.N = 1 := rfl
  (dats m 0 c).arrAt_eq_of_cover 4 (scalesOf x w : Buf (Elt Ideal) ((c : Thread nD τ).loc main_v37_2)) (fun t _ => flushed4_eq m c x w hx hw t)
    fun i => ⟨⟨0, by omega⟩, flush0_4 _, mem_blk4 _ i⟩
end final

end Cert.RotRef

end
-- ==== Proof.RotClaims.lean ====
/- The claims about the rotation: the kernel's results against the reference's. -/
module

public import proofs.«01_k».proof.Defs
public import proofs.«01_k».proof.Proof.Gen.RotateIdeal.Value
public import proofs.«01_k».proof.Proof.RotFinite
public import proofs.«01_k».proof.Proof.RotRefRun

@[expose] public section

set_option maxRecDepth 16384

noncomputable section

namespace Cert.Proof

open Idealize.ShloMosaic Idealize.ShloMosaic.TcCoe Idealize.SL.Sem

/-- The real number at row `r`, column `d` of the activations. -/
def realX (X : FVec Ideal Cert.Pre_inputs_finite.S1x256x14336 .bf16) (r d : Nat) : ℝ :=
  if h : r < 256 ∧ d < 14336 then (X (ix3 0 ⟨r, h.1⟩ ⟨d, h.2⟩) : EReal).toReal else 0

/-- The real number at row `i`, column `j` of the small matrix. -/
def realW (W : FVec Ideal Cert.Pre_inputs_finite.S28x28 .f32) (i j : Nat) : ℝ :=
  if h : i < 28 ∧ j < 28 then (W (ix2 ⟨i, h.1⟩ ⟨j, h.2⟩) : EReal).toReal else 0

theorem realX_eq (X : FVec Ideal Cert.Pre_inputs_finite.S1x256x14336 .bf16) (h : ∀ i, X i = (((X i : EReal).toReal : ℝ) : EReal))
    (r : Fin 256) (d : Fin 14336) : X (ix3 0 r d) = ((realX X r.val d.val : ℝ) : EReal) := by
  unfold realX
  rw [dif_pos ⟨r.isLt, d.isLt⟩]
  exact h _

theorem realW_eq (W : FVec Ideal Cert.Pre_inputs_finite.S28x28 .f32) (h : ∀ i, W i = (((W i : EReal).toReal : ℝ) : EReal))
    (i j : Fin 28) : W (ix2 i j) = ((realW W i.val j.val : ℝ) : EReal) := by
  unfold realW
  rw [dif_pos ⟨i.isLt, j.isLt⟩]
  exact h _

/-- On finite arguments the kernel's rotation ends with its three result arrays at the codes, activations and scales
    of its arguments, which are unchanged, and so does the reference's. -/
theorem rotate_algebraic : Cert.algebraic_RotateIdeal_RefRotateIdeal_pre_inputs_finite
    (hRotateIdeal := Cert.RotateIdeal.Gen.facts) (hRefRotateIdeal := Cert.RefRotateIdeal.Gen.facts)
    (hPre_inputs_finite := Cert.Pre_inputs_finite.Gen.facts) := by
  intro m ρ m' ρ' hpre hag
  have hX := fun c => realX_eq _ (fn_real _ _ (hpre c)).1
  have hW := fun c => realW_eq _ (fn_real _ _ (hpre c)).2
  refine ⟨fun c => Cert.Rot.codesOf (realX (m ((c.tc : Thread Cert.RotateIdeal.nD Cert.RotateIdeal.τ).loc Cert.RotateIdeal.main_arg0))) (realW (m ((c.tc : Thread Cert.RotateIdeal.nD Cert.RotateIdeal.τ).loc Cert.RotateIdeal.main_arg1))),
    fun c => Cert.Rot.actsOf (realX (m ((c.tc : Thread Cert.RotateIdeal.nD Cert.RotateIdeal.τ).loc Cert.RotateIdeal.main_arg0))) (realW (m ((c.tc : Thread Cert.RotateIdeal.nD Cert.RotateIdeal.τ).loc Cert.RotateIdeal.main_arg1))),
    fun c => Cert.Rot.scalesOf (realX (m ((c.tc : Thread Cert.RotateIdeal.nD Cert.RotateIdeal.τ).loc Cert.RotateIdeal.main_arg0))) (realW (m ((c.tc : Thread Cert.RotateIdeal.nD Cert.RotateIdeal.τ).loc Cert.RotateIdeal.main_arg1))), ?_, ?_⟩
  · exact (θ_run _ _ _).mono (fun _ h c => ⟨(h c).1.trans (Cert.Rot.final2 m c _ _ (hX c) (hW c)),
      (h c).2.1.trans (Cert.Rot.final3 m c _ _ (hX c) (hW c)), (h c).2.2.1.trans (Cert.Rot.final4 m c _ _ (hX c) (hW c)), (h c).2.2.2⟩)
      (Cert.RotateIdeal.Value.run_blocks m ρ)
  · have hX' := fun c r d => (congrFun (hag c).1 (ix3 0 r d)).trans (hX c r d)
    have hW' := fun c i j => (congrFun (hag c).2 (ix2 i j)).trans (hW c i j)
    exact (θ_run _ _ _).mono (fun _ h c => ⟨(h c).1.trans (Cert.RotRef.final2 m' c _ _ (hX' c) (hW' c)),
      (h c).2.1.trans (Cert.RotRef.final3 m' c _ _ (hX' c) (hW' c)), (h c).2.2.1.trans (Cert.RotRef.final4 m' c _ _ (hX' c) (hW' c)), (h c).2.2.2⟩)
      (Cert.RotRefValue.run_blocks m' ρ')

end Cert.Proof

end
-- ==== Proof.lean ====
module

public import proofs.«01_k».proof.Defs
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.RefProjectIdeal
public import proofs.«01_k».proof.Proof.Gen.RefProjectIdeal.Skeleton
public import proofs.«01_k».proof.Proof.Gen.RefProjectIdeal.Launch
public import proofs.«01_k».proof.Proof.Gen.RefProjectIdeal.Points
public import proofs.«01_k».proof.Proof.Gen.RefProjectIdeal.Frame
public import proofs.«01_k».proof.Proof.Gen.Rotate
public import proofs.«01_k».proof.Proof.Gen.Rotate.Skeleton
public import proofs.«01_k».proof.Proof.Gen.Rotate.Launch
public import proofs.«01_k».proof.Proof.Gen.Rotate.Points
public import proofs.«01_k».proof.Proof.Gen.Rotate.Frame
public import proofs.«01_k».proof.Proof.Gen.RotateIdeal
public import proofs.«01_k».proof.Proof.Gen.RotateIdeal.Skeleton
public import proofs.«01_k».proof.Proof.Gen.RotateIdeal.Launch
public import proofs.«01_k».proof.Proof.Gen.RotateIdeal.Points
public import proofs.«01_k».proof.Proof.Gen.RotateIdeal.Frame
public import proofs.«01_k».proof.Proof.Gen.RefRotateIdeal
public import proofs.«01_k».proof.Proof.Gen.RefRotateIdeal.Skeleton
public import proofs.«01_k».proof.Proof.Gen.RefRotateIdeal.Launch
public import proofs.«01_k».proof.Proof.Gen.RefRotateIdeal.Points
public import proofs.«01_k».proof.Proof.Gen.RefRotateIdeal.Frame
public import proofs.«01_k».proof.Proof.Gen.Pre_exponents_bounded
public import proofs.«01_k».proof.Proof.Gen.Pre_inputs_finite
public import proofs.«01_k».proof.Proof.Gen.ProjectIdeal.Value
public import proofs.«01_k».proof.Proof.Gen.RefProjectIdeal.Value
public import proofs.«01_k».proof.Proof.Gen.RotateIdeal.Value
public import proofs.«01_k».proof.Proof.ProjClaims
public import proofs.«01_k».proof.Proof.RotClaims
public import Idealize.ShloMosaic.Adequacy
public import Idealize.ShloMosaic.Init

@[expose] public section

noncomputable section

namespace Cert.Proof

open Idealize.ShloMosaic Idealize.SL.Sem Cert.Project

theorem claim : Cert.Claim := ⟨Cert.Project.Gen.facts, Cert.ProjectIdeal.Gen.facts, Cert.RefProjectIdeal.Gen.facts, Cert.Rotate.Gen.facts, Cert.RotateIdeal.Gen.facts, Cert.RefRotateIdeal.Gen.facts, Cert.Pre_exponents_bounded.Gen.facts, Cert.Pre_inputs_finite.Gen.facts,
  fun m ρ _ => Cert.Project.Gen.frame m ρ, fun m ρ _ => Cert.ProjectIdeal.Gen.frame m ρ, fun m ρ _ => Cert.ProjectIdeal.Gen.frame m ρ,
  fun m ρ _ => Cert.RefProjectIdeal.Gen.frame m ρ, fun m ρ _ => Cert.RefProjectIdeal.Gen.frame m ρ,
  fun m ρ _ => Cert.Rotate.Gen.frame m ρ, fun m ρ _ => Cert.RotateIdeal.Gen.frame m ρ, fun m ρ _ => Cert.RotateIdeal.Gen.frame m ρ,
  fun m ρ _ => Cert.RefRotateIdeal.Gen.frame m ρ, fun m ρ _ => Cert.RefRotateIdeal.Gen.frame m ρ,
  trivial, project_algebraic, trivial, rotate_algebraic⟩

end Cert.Proof

end
